-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bf16_range [hPre_bf16_range : Cert.Pre_bf16_range.Facts] (m : (ℓ : Loc Cert.KernelIdeal.nD Cert.KernelIdeal.τ Cert.KernelIdeal.sig) → Buf (Elt Ideal) ℓ) : Prop :=
  ∀ c : Dev Cert.KernelIdeal.nD,
    (Cert.Pre_bf16_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bf16_range [hPre_bf16_range : Cert.Pre_bf16_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bf16_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bf16_range [hKernelIdeal : Cert.KernelIdeal.Facts] [hPre_bf16_range : Cert.Pre_bf16_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bf16_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bf16_range [hReferenceIdeal : Cert.ReferenceIdeal.Facts] [hPre_bf16_range : Cert.Pre_bf16_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bf16_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_bf16_range [hKernelIdeal : Cert.KernelIdeal.Facts] [hReferenceIdeal : Cert.ReferenceIdeal.Facts] [hPre_bf16_range : Cert.Pre_bf16_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bf16_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_bf16_range : Cert.Pre_bf16_range.Facts),
    quiescent_Kernel (hKernel := hKernel)
    ∧ quiescent_KernelIdeal (hKernelIdeal := hKernelIdeal)
    ∧ quiescent_KernelIdeal_pre_bf16_range (hKernelIdeal := hKernelIdeal) (hPre_bf16_range := hPre_bf16_range)
    ∧ quiescent_ReferenceIdeal (hReferenceIdeal := hReferenceIdeal)
    ∧ quiescent_ReferenceIdeal_pre_bf16_range (hReferenceIdeal := hReferenceIdeal) (hPre_bf16_range := hPre_bf16_range)
    ∧ preserves_Kernel_KernelIdeal
    ∧ algebraic_KernelIdeal_ReferenceIdeal_pre_bf16_range (hKernelIdeal := hKernelIdeal) (hReferenceIdeal := hReferenceIdeal) (hPre_bf16_range := hPre_bf16_range)
-- ==== Pre_bf16_range.lean ====
abbrev S160x1x11008 : Shape := ⟨3, ![160, 1, 11008]⟩
abbrev S11008x4096 : Shape := ⟨2, ![11008, 4096]⟩
abbrev S_ : Shape := ⟨0, ![]⟩

class Facts : Prop where
  bcast_S_S160x1x11008 : S_.BroadcastsInDim S160x1x11008 (![] : Fin 0 → Fin S160x1x11008.rank)
  reducesTo_S160x1x11008_S_d0_1_2 : S160x1x11008.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_

variable [Facts]

def fn {F : FTy → Type} [FloatOps F] (main_arg0 : FVec F S160x1x11008 .bf16) (main_arg1 : FVec F S11008x4096 .bf16) : IVec S_ 1 :=
  let main_v0 : FVec F S160x1x11008 .bf16 := Host.absf main_arg0
  let main_v1 : FVec F S11008x4096 .bf16 := Host.absf main_arg1
  let main_cst : FVec F S_ .bf16 := constant S_ .bf16 0x7F7F#16
  let main_v2 : FVec F S160x1x11008 .bf16 := broadcastInDim S160x1x11008 ![] bcast_S_S160x1x11008 main_cst
  let main_v3 : IVec S160x1x11008 1 := cmpf .ole main_v0 main_v2
  let main_cst_0 : FVec F S_ .bf16 := constant S_ .bf16 0x7F80#16
  let main_v4 : FVec F S160x1x11008 .bf16 := broadcastInDim S160x1x11008 ![] bcast_S_S160x1x11008 main_cst_0
  let main_v5 : IVec S160x1x11008 1 := cmpf .oeq main_v0 main_v4
  let main_v6 : IVec S160x1x11008 1 := ori main_v3 main_v5
  let main_c : IVec S_ 1 := constantI S_ 1 1#1
  let main_v7 : IVec S_ 1 := (fun x v => Host.reduce IntOp.andi x v reducesTo_S160x1x11008_S_d0_1_2 h_S_) main_v6 main_c
  let main_cst_1 : FVec F S_ .bf16 := constant S_ .bf16 0x7F7F#16
  let main_v8 : FVec F S11008x4096 .bf16 := broadcastInDim S11008x4096 ![] bcast_S_S11008x4096 main_cst_1
  let main_v9 : IVec S11008x4096 1 := cmpf .ole main_v1 main_v8
  let main_cst_2 : FVec F S_ .bf16 := constant S_ .bf16 0x7F80#16
  let main_v10 : FVec F S11008x4096 .bf16 := broadcastInDim S11008x4096 ![] bcast_S_S11008x4096 main_cst_2
  let main_v11 : IVec S11008x4096 1 := cmpf .oeq main_v1 main_v10
  let main_v12 : IVec S11008x4096 1 := ori main_v9 main_v11
  let main_c_3 : IVec S_ 1 := constantI S_ 1 1#1
  let main_v13 : IVec S_ 1 := (fun x v => Host.reduce IntOp.andi x v reducesTo_S11008x4096_S_d0_1 h_S_) main_v12 main_c_3
  let main_v14 : IVec S_ 1 := andi main_v7 main_v13
  main_v14
-- ==== Kernel.lean ====
abbrev S160x1x11008 : Shape := ⟨3, ![160, 1, 11008]⟩
abbrev S11008x4096 : Shape := ⟨2, ![11008, 4096]⟩
abbrev S160x11008 : Shape := ⟨2, ![160, 11008]⟩
abbrev S160x4096 : Shape := ⟨2, ![160, 4096]⟩
abbrev S160x1x86 : Shape := ⟨3, ![160, 1, 86]⟩
abbrev S32x86 : Shape := ⟨2, ![32, 86]⟩
abbrev S160x256 : Shape := ⟨2, ![160, 256]⟩
abbrev S256x4096 : Shape := ⟨2, ![256, 4096]⟩
abbrev S160x128 : Shape := ⟨2, ![160, 128]⟩
abbrev S32x128 : Shape := ⟨2, ![32, 128]⟩
abbrev S2x32x128 : Shape := ⟨3, ![2, 32, 128]⟩
abbrev S160 : Shape := ⟨1, ![160]⟩
abbrev S160x1 : Shape := ⟨2, ![160, 1]⟩
abbrev S128x128 : Shape := ⟨2, ![128, 128]⟩
abbrev S8x16x128 : Shape := ⟨3, ![8, 16, 128]⟩
abbrev S16x128 : Shape := ⟨2, ![16, 128]⟩
abbrev S128 : Shape := ⟨1, ![128]⟩
abbrev S1x128 : Shape := ⟨2, ![1, 128]⟩
abbrev S32 : Shape := ⟨1, ![32]⟩
abbrev S32x1 : Shape := ⟨2, ![32, 1]⟩
abbrev S32x256 : Shape := ⟨2, ![32, 256]⟩
abbrev S1x32x128 : Shape := ⟨3, ![1, 32, 128]⟩
abbrev S1x1x128 : Shape := ⟨3, ![1, 1, 128]⟩
abbrev S8x128 : Shape := ⟨2, ![8, 128]⟩
abbrev S1x16x128 : Shape := ⟨3, ![1, 16, 128]⟩
abbrev S256x128 : Shape := ⟨2, ![256, 128]⟩
abbrev S256x256 : Shape := ⟨2, ![256, 256]⟩
abbrev S1x86 : Shape := ⟨2, ![1, 86]⟩
abbrev S1x1x86 : Shape := ⟨3, ![1, 1, 86]⟩

abbrev nBuf : Space → Nat
  | .hbm => 8
  | .vmem => 16
  | .smem => 0
  | _ => 0

abbrev bufTy : (tb : Table) → Fin (tcTables nBuf tb) → BufTy
  | .hbm, ⟨0, _⟩ => ⟨S160x1x11008, .bf16⟩
  | .hbm, ⟨1, _⟩ => ⟨S11008x4096, .bf16⟩
  | .hbm, ⟨2, _⟩ => ⟨S160x11008, .bf16⟩
  | .hbm, ⟨3, _⟩ => ⟨S160x4096, .bf16⟩
  | .hbm, ⟨4, _⟩ => ⟨S160x11008, .fp8e4m3⟩
  | .hbm, ⟨5, _⟩ => ⟨S160x1x86, .f32⟩
  | .hbm, ⟨6, _⟩ => ⟨S11008x4096, .fp8e4m3⟩
  | .hbm, ⟨7, _⟩ => ⟨S32x86, .f32⟩
  | .local _ .vmem, ⟨0, _⟩ => ⟨S160x256, .bf16⟩
  | .local _ .vmem, ⟨1, _⟩ => ⟨S160x256, .bf16⟩
  | .local _ .vmem, ⟨2, _⟩ => ⟨S256x4096, .bf16⟩
  | .local _ .vmem, ⟨3, _⟩ => ⟨S256x4096, .bf16⟩
  | .local _ .vmem, ⟨4, _⟩ => ⟨S160x4096, .bf16⟩
  | .local _ .vmem, ⟨5, _⟩ => ⟨S160x256, .fp8e4m3⟩
  | .local _ .vmem, ⟨6, _⟩ => ⟨S160x256, .fp8e4m3⟩
  | .local _ .vmem, ⟨7, _⟩ => ⟨S160x1x86, .f32⟩
  | .local _ .vmem, ⟨8, _⟩ => ⟨S256x4096, .fp8e4m3⟩
  | .local _ .vmem, ⟨9, _⟩ => ⟨S256x4096, .fp8e4m3⟩
  | .local _ .vmem, ⟨10, _⟩ => ⟨S32x86, .f32⟩
  | .local _ .vmem, ⟨11, _⟩ => ⟨S160x4096, .f32⟩
  | .local _ .vmem, ⟨12, _⟩ => ⟨S160x128, .f32⟩
  | .local _ .vmem, ⟨13, _⟩ => ⟨S32x128, .f32⟩
  | .local _ .vmem, ⟨14, _⟩ => ⟨S2x32x128, .i32⟩
  | .local _ .vmem, ⟨15, _⟩ => ⟨S2x32x128, .i32⟩
  | _, _ => ⟨S160x1x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![43], ![false]⟩

def k0_cond2 (i : grid0.Coords) : BitVec 1 :=
  let arg0 : BitVec 32 := BitVec.ofNat 32 (i 0).val
  let c42_i32 : BitVec 32 := 42#32
  let v2731 : BitVec 1 := Scalar.cmpi .eq arg0 c42_i32
  let v2732 : BitVec 32 := Scalar.extui v2731
  let c0_i32_1125 : BitVec 32 := 0#32
  let v2733 : BitVec 1 := Scalar.cmpi .ne v2732 c0_i32_1125
  v2733

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S160x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S160x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S160x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S160x1x86 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x86 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S160x1x11008 : Shape := ⟨3, ![160, 1, 11008]⟩
abbrev S11008x4096 : Shape := ⟨2, ![11008, 4096]⟩
abbrev S160x4096 : Shape := ⟨2, ![160, 4096]⟩
abbrev S160x11008 : Shape := ⟨2, ![160, 11008]⟩
abbrev S160x1x86 : Shape := ⟨3, ![160, 1, 86]⟩
abbrev S32x86 : Shape := ⟨2, ![32, 86]⟩
abbrev S160x86x128 : Shape := ⟨3, ![160, 86, 128]⟩
abbrev S160x86 : Shape := ⟨2, ![160, 86]⟩
abbrev S160x86x253 : Shape := ⟨3, ![160, 86, 253]⟩
abbrev S160x86x1 : Shape := ⟨3, ![160, 86, 1]⟩
abbrev S86x128x32x128 : Shape := ⟨4, ![86, 128, 32, 128]⟩
abbrev S86x32 : Shape := ⟨2, ![86, 32]⟩
abbrev S86x32x253 : Shape := ⟨3, ![86, 32, 253]⟩
abbrev S86x32x1 : Shape := ⟨3, ![86, 32, 1]⟩
abbrev S86x1x32x1 : Shape := ⟨4, ![86, 1, 32, 1]⟩

abbrev nBuf : Space → Nat
  | .hbm => 7
  | .vmem => 7
  | .smem => 0
  | _ => 0

abbrev bufTy : (tb : Table) → Fin (tcTables nBuf tb) → BufTy
  | .hbm, ⟨0, _⟩ => ⟨S160x1x11008, .bf16⟩
  | .hbm, ⟨1, _⟩ => ⟨S11008x4096, .bf16⟩
  | .hbm, ⟨2, _⟩ => ⟨S160x4096, .bf16⟩
  | .hbm, ⟨3, _⟩ => ⟨S160x11008, .fp8e4m3⟩
  | .hbm, ⟨4, _⟩ => ⟨S160x1x86, .f32⟩
  | .hbm, ⟨5, _⟩ => ⟨S11008x4096, .fp8e4m3⟩
  | .hbm, ⟨6, _⟩ => ⟨S32x86, .f32⟩
  | .local _ .vmem, ⟨0, _⟩ => ⟨S160x1x11008, .bf16⟩
  | .local _ .vmem, ⟨1, _⟩ => ⟨S11008x4096, .bf16⟩
  | .local _ .vmem, ⟨2, _⟩ => ⟨S160x4096, .bf16⟩
  | .local _ .vmem, ⟨3, _⟩ => ⟨S160x11008, .fp8e4m3⟩
  | .local _ .vmem, ⟨4, _⟩ => ⟨S160x1x86, .f32⟩
  | .local _ .vmem, ⟨5, _⟩ => ⟨S11008x4096, .fp8e4m3⟩
  | .local _ .vmem, ⟨6, _⟩ => ⟨S32x86, .f32⟩
  | _, _ => ⟨S160x1x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S160x1x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S11008x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x11008 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x1x86 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S11008x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x86 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Uniform.lean ====
/- The stores of one grid step, said once for every tile: what the step's body writes to each buffer is a list of pieces,
   one per block, and each piece is one function of the block read and of the scale words read. -/
module
public import proofs.«01_k».proof.Proof.Gen.KernelIdeal.Frame
@[expose] public section
set_option maxRecDepth 16384
noncomputable section
namespace Cert.KernelIdeal.Gen
open Idealize.ShloMosaic Idealize.ShloMosaic.TcCoe Idealize.ShloMosaic.Tactic
open Idealize.SL Idealize.SL.Sem
variable {F : FTy → Type} [FloatOps F]

/-! ### Rectangles -/

theorem wInb (h : Fin 2) (c : Fin 32) : ∀ a, (![128 * h.val, 128 * c.val] : Fin 2 → ℕ) a + S128x128.size a ≤ S256x4096.size a := by
  intro a; have := h.isLt; have := c.isLt; fin_cases a <;> simp [S128x128, S256x4096] <;> omega
theorem wordInb (h : Fin 2) (c : Fin 32) : ∀ a, (![h.val, c.val, 0] : Fin 3 → ℕ) a + S1x1x128.size a ≤ S2x32x128.size a := by
  intro a; have := h.isLt; have := c.isLt; fin_cases a <;> simp [S1x1x128, S2x32x128] <;> omega
theorem xInb (h : Fin 2) : ∀ a, (![0, 128 * h.val] : Fin 2 → ℕ) a + S160x128.size a ≤ S160x256.size a := by
  intro a; have := h.isLt; fin_cases a <;> simp [S160x128, S160x256] <;> omega
theorem accInb (t : Fin 16) : ∀ a, (![0, 256 * t.val] : Fin 2 → ℕ) a + S160x256.size a ≤ S160x4096.size a := by
  intro a; have := t.isLt; fin_cases a <;> simp [S160x256, S160x4096] <;> omega
theorem wordsInb (h : Fin 2) : ∀ a, (![h.val, 0, 0] : Fin 3 → ℕ) a + S1x32x128.size a ≤ S2x32x128.size a := by
  intro a; have := h.isLt; fin_cases a <;> simp [S1x32x128, S2x32x128] <;> omega

/-- Block row `h` and block column `c` of the step's weight block. -/
def wRect (h : Fin 2) (c : Fin 32) : Rect S256x4096 := Rect.unit (s := S256x4096) ![128 * h.val, 128 * c.val] S128x128.size (wInb h c)
/-- Row `c` of half `h` of a word scratch. -/
def wordRect (h : Fin 2) (c : Fin 32) : Rect S2x32x128 := Rect.unit (s := S2x32x128) ![h.val, c.val, 0] S1x1x128.size (wordInb h c)
/-- Half `h` of a word scratch. -/
def wordsRect (h : Fin 2) : Rect S2x32x128 := Rect.unit (s := S2x32x128) ![h.val, 0, 0] S1x32x128.size (wordsInb h)
/-- Half `h` of the step's activation block. -/
def xRect (h : Fin 2) : Rect S160x256 := Rect.unit (s := S160x256) ![0, 128 * h.val] S160x128.size (xInb h)
/-- Column tile `t` of the accumulator. -/
def accRect (t : Fin 16) : Rect S160x4096 := Rect.unit (s := S160x4096) ![0, 256 * t.val] S160x256.size (accInb t)

/-- The block row of the `k`-th newest store of the codes. -/
def hOf (k : Fin 64) : Fin 2 := ⟨1 - k.val % 2, by omega⟩
/-- The block column of the `k`-th newest store of the codes. -/
def cOf (k : Fin 64) : Fin 32 := ⟨31 - k.val / 2, by omega⟩
/-- The tile of the `k`-th newest store of the accumulator. -/
def tOf (k : Fin 16) : Fin 16 := ⟨15 - k.val, by omega⟩
/-- The block column of column half `j` of tile `t`. -/
def colOf (t : Fin 16) (j : Fin 2) : Fin 32 := ⟨2 * t.val + j.val, by omega⟩

/-! ### Reads -/

def xRead (arg1 : Memref sig Kind.tc Space.vmem S160x256 EltTy.bf16) (harg1 : arg1.IsWhole) (x0 : Vec F S160x256 .bf16) (h : Fin 2) : Vec F S160x128 .bf16 :=
  View.readAt (Elt F) arg1.view (xRect h).toLoadRect (harg1.unread x0)
def wRead (arg2 : Memref sig Kind.tc Space.vmem S256x4096 EltTy.bf16) (harg2 : arg2.IsWhole) (x1 : Vec F S256x4096 .bf16) (h : Fin 2) (c : Fin 32) : Vec F S128x128 .bf16 :=
  View.readAt (Elt F) arg2.view (wRect h c).toLoadRect (harg2.unread x1)
def accRead (arg8 : Memref sig Kind.tc Space.vmem S160x4096 EltTy.f32) (harg8 : arg8.IsWhole) (xs0 : Vec F S160x4096 .f32) (t : Fin 16) : Vec F S160x256 .f32 :=
  View.readAt (Elt F) arg8.view (accRect t).toLoadRect (harg8.unread xs0)
def wordRead (arg : Memref sig Kind.tc Space.vmem S2x32x128 EltTy.i32) (L : List (View.Piece (Elt F) S2x32x128 .i32)) (h : Fin 2) (c : Fin 32) : Vec F S1x1x128 .i32 :=
  arg.view.readCov L (wordRect h c).toLoadRect

/-! ### The activation half -/

def fp8max : F .f32 := Scalar.ofBits .f32 0x43E00000#32
/-- Scale words, scales, codes and dequantised values of one half of the activation block. -/
def xBits (v : Vec F S160x128 .bf16) : IVec S160x1 32 := k0_pay166 v
def xScale (v : Vec F S160x128 .bf16) : FVec F S160x1 .f32 := k0_pay167 v
def xCodes (v : Vec F S160x128 .bf16) : FVec F S160x128 .fp8e4m3 := k0_pay169 fp8max (k0_pay168 v)
def xDeq (v : Vec F S160x128 .bf16) : FVec F S160x128 .bf16 := k0_pay170 (k0_pay167 v) fp8max (k0_pay168 v)
def xqOf (X : Fin 2 → Vec F S160x128 .bf16) : FVec F S160x256 .bf16 :=
  concatenate S160x256 1 [⟨S160x128, xDeq (X 0)⟩, ⟨S160x128, xDeq (X 1)⟩] concatenates_S160x128_S160x128_S160x256_d1
/-- The scratch of activation scales after one group's scales have gone to their lane. -/
def xsStore (lane : BitVec 32) (v : Vec F S160x128 .bf16) (old : Vec F S160x128 .f32) : FVec F S160x128 .f32 := k0_pay171 lane (k0_pay167 v) old

/-! ### The weight half -/

/-- The largest magnitudes of a block row's 32 blocks times the inverse of the largest code. -/
def wCol (W : Fin 32 → Vec F S128x128 .bf16) : FVec F S32x1 .f32 :=
  mulf (shapeCast S32x1 (multiReduction .maximumf [1] S32
    (concatenate S32x128 0 (List.ofFn fun c : Fin 32 => (⟨S1x128, k0_pay181 (W c)⟩ : (s : Shape) × (s.Idx → F .f32)))
      concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S32x128_d0)
    0xFF800000#32 reduces_S32x128_S32 (.inl rfl) rfl) shapeCasts_S32_S32x1)
    (broadcast S32x1 (Scalar.ofBits .f32 0x3B124925#32))
/-- The scale words of a column of such products, and the words of a scale scratch and an inverse scratch. -/
def wBits (v : FVec F S32x1 .f32) : IVec S32x1 32 := k0_pay250 v (iota .tc S32x256 32 [1] iota_S32x256_d1_w32) k0_pay249
def scWords (v : FVec F S32x1 .f32) : IVec S1x32x128 32 := k0_pay254 v (iota .tc S32x256 32 [1] iota_S32x256_d1_w32) k0_pay249
def invWords (v : FVec F S32x1 .f32) : IVec S1x32x128 32 := k0_pay256 (k0_pay252 v (iota .tc S32x256 32 [1] iota_S32x256_d1_w32) k0_pay249) k0_pay255
/-- The scratch of weight scales after one block row's scales have gone to their lane. -/
def wsStore (step : BitVec 32) (h : BitVec 32) (v : FVec F S32x1 .f32) (old : Vec F S32x128 .f32) : FVec F S32x128 .f32 :=
  shapeCast S32x128 (select (cmpi .eq (iota .tc S32x128 32 [1] iota_S32x128_d1_w32) (broadcast S32x128 (Scalar.addi (Scalar.muli step 2#32) h)))
    (bitcastToFloat .f32 (k0_pay251 v (iota .tc S32x256 32 [1] iota_S32x256_d1_w32) k0_pay249)) old) shapeCasts_S32x128_S32x128
def scPieces (W : Fin 2 → Fin 32 → Vec F S128x128 .bf16) : List (View.Piece (Elt F) S2x32x128 .i32) :=
  [⟨wordsRect 1, scWords (wCol (W 1))⟩, ⟨wordsRect 0, scWords (wCol (W 0))⟩]
def invPieces (W : Fin 2 → Fin 32 → Vec F S128x128 .bf16) : List (View.Piece (Elt F) S2x32x128 .i32) :=
  [⟨wordsRect 1, invWords (wCol (W 1))⟩, ⟨wordsRect 0, invWords (wCol (W 0))⟩]

/-- Codes and dequantised values of one 128 by 128 block of the weight, from the block and its rows of words. -/
def codesBlk (v : Vec F S128x128 .bf16) (iw : Vec F S1x1x128 .i32) : FVec F S128x128 .fp8e4m3 := k0_pay257 v iw
def deqBlk (v : Vec F S128x128 .bf16) (iw sw : Vec F S1x1x128 .i32) : FVec F S128x128 .bf16 := k0_pay258 v iw sw
/-- One tile of the accumulator: the old tile plus the product with the tile's four dequantised blocks. -/
def accTile (xq : FVec F S160x256 .bf16) (q : Fin 2 → Fin 2 → FVec F S128x128 .bf16) (acc : Vec F S160x256 .f32) : FVec F S160x256 .f32 :=
  shapeCast S160x256 (addf acc (matmul dot_S160x256_S256x256_S160x256_1_0_0_1_n_n none xq
    (concatenate S256x256 1 [⟨S256x128, concatenate S256x128 0 [⟨S128x128, q 0 0⟩, ⟨S128x128, q 1 0⟩] concatenates_S128x128_S128x128_S256x128_d0⟩,
      ⟨S256x128, concatenate S256x128 0 [⟨S128x128, q 0 1⟩, ⟨S128x128, q 1 1⟩] concatenates_S128x128_S128x128_S256x128_d0⟩]
      concatenates_S256x128_S256x128_S256x256_d1) (constant S160x256 .f32 0x00000000#32))) shapeCasts_S160x256_S160x256

/-- A step's dequantised block in block row `h` of tile `t`'s column half `j`. -/
def qOf (W : Fin 2 → Fin 32 → Vec F S128x128 .bf16) (IW SW : Fin 2 → Fin 32 → Vec F S1x1x128 .i32) (t : Fin 16) (h j : Fin 2) : FVec F S128x128 .bf16 :=
  deqBlk (W h (colOf t j)) (IW h (colOf t j)) (SW h (colOf t j))

def xcPieces (X : Fin 2 → Vec F S160x128 .bf16) : List (View.Piece (Elt F) S160x256 .fp8e4m3) :=
  [⟨xRect 1, xCodes (X 1)⟩, ⟨xRect 0, xCodes (X 0)⟩]
def wcPieces (W : Fin 2 → Fin 32 → Vec F S128x128 .bf16) (IW : Fin 2 → Fin 32 → Vec F S1x1x128 .i32) : List (View.Piece (Elt F) S256x4096 .fp8e4m3) :=
  List.ofFn fun k : Fin 64 => ⟨wRect (hOf k) (cOf k), codesBlk (W (hOf k) (cOf k)) (IW (hOf k) (cOf k))⟩
def accPieces (xq : FVec F S160x256 .bf16) (q : Fin 16 → Fin 2 → Fin 2 → FVec F S128x128 .bf16) (acc : Fin 16 → Vec F S160x256 .f32) :
    List (View.Piece (Elt F) S160x4096 .f32) :=
  List.ofFn fun k : Fin 16 => ⟨accRect (tOf k), accTile xq (q (tOf k)) (acc (tOf k))⟩

/-- The lane of the scale scratches that half `h` of grid step `i` fills. -/
def laneOf (i : grid0.Coords) (h : BitVec 32) : BitVec 32 := Scalar.addi (Scalar.muli (BitVec.ofNat 32 (i 0).val) 2#32) h
def xsWhole : Rect S160x128 := Rect.unit (s := S160x128) ![0, 0] S160x128.size inb_S160x128_S160x128_0_0
def wsWhole : Rect S32x128 := Rect.unit (s := S32x128) ![0, 0] S32x128.size inb_S32x128_S32x128_0_0
/-- The activation scale scratch after the first half of a step, then after both. -/
def xsPieces (i : grid0.Coords) (arg9 : Memref sig Kind.tc Space.vmem S160x128 EltTy.f32) (X : Fin 2 → Vec F S160x128 .bf16) (old : Vec F S160x128 .f32)
    (L : List (View.Piece (Elt F) S160x128 .f32)) : List (View.Piece (Elt F) S160x128 .f32) :=
  ⟨xsWhole, xsStore (laneOf i 1#32) (X 1) (arg9.view.readCov (⟨xsWhole, xsStore (laneOf i 0#32) (X 0) old⟩ :: L) xsWhole.toLoadRect)⟩ ::
    ⟨xsWhole, xsStore (laneOf i 0#32) (X 0) old⟩ :: L
/-- The weight scale scratch after the first half of a step, then after both. -/
def wsPieces (i : grid0.Coords) (arg10 : Memref sig Kind.tc Space.vmem S32x128 EltTy.f32) (W : Fin 2 → Fin 32 → Vec F S128x128 .bf16) (old : Vec F S32x128 .f32)
    (L : List (View.Piece (Elt F) S32x128 .f32)) : List (View.Piece (Elt F) S32x128 .f32) :=
  ⟨wsWhole, wsStore (BitVec.ofNat 32 (i 0).val) 1#32 (wCol (W 1)) (arg10.view.readCov (⟨wsWhole, wsStore (BitVec.ofNat 32 (i 0).val) 0#32 (wCol (W 0)) old⟩ :: L) wsWhole.toLoadRect)⟩ ::
    ⟨wsWhole, wsStore (BitVec.ofNat 32 (i 0).val) 0#32 (wCol (W 0)) old⟩ :: L

theorem rowInb (r : Fin 160) : ∀ a, (![r.val, 0] : Fin 2 → ℕ) a + S1x86.size a ≤ S160x128.size a := by
  intro a; have := r.isLt; fin_cases a <;> simp [S1x86, S160x128] <;> omega
theorem rowOutInb (r : Fin 160) : ∀ a, (![r.val, 0, 0] : Fin 3 → ℕ) a + S1x1x86.size a ≤ S160x1x86.size a := by
  intro a; have := r.isLt; fin_cases a <;> simp [S1x1x86, S160x1x86] <;> omega
/-- The row of the `k`-th newest store of the activation scales' result. -/
def rOf (k : Fin 160) : Fin 160 := ⟨159 - k.val, by omega⟩
/-- The activation scales' result, copied row by row out of the scratch in the last step. -/
def xsOutPieces (arg9 : Memref sig Kind.tc Space.vmem S160x128 EltTy.f32) (L : List (View.Piece (Elt F) S160x128 .f32)) :
    List (View.Piece (Elt F) S160x1x86 .f32) :=
  List.ofFn fun k : Fin 160 => ⟨Rect.unit (s := S160x1x86) ![(rOf k).val, 0, 0] S1x1x86.size (rowOutInb (rOf k)),
    shapeCast S1x1x86 (arg9.view.readCov L (Rect.unit (s := S160x128) ![(rOf k).val, 0] S1x86.size (rowInb (rOf k))).toLoadRect) shapeCasts_S1x86_S1x1x86⟩

end Cert.KernelIdeal.Gen
end
-- ==== Proof.Step.lean ====
/- One grid step as functions of the step's two input blocks and of what the scratches held: no memory references left. -/
module
public import proofs.«01_k».proof.Proof.Uniform
public import Idealize.ShloMosaic.Lib.Pipeline.ValueKit
public import Idealize.ShloMosaic.Lib.Pipeline.CanonAppend
@[expose] public section
set_option maxRecDepth 16384
noncomputable section
namespace Cert.KernelIdeal.Gen
open Idealize.ShloMosaic Idealize.ShloMosaic.TcCoe Idealize.ShloMosaic.Tactic
open Idealize.SL Idealize.SL.Sem
variable {F : FTy → Type} [FloatOps F]

/-- Half `h` of an activation block. -/
def xld (x0 : Vec F S160x256 .bf16) (h : Fin 2) : Vec F S160x128 .bf16 := View.ld x0 (xRect h)
/-- Block `(h, c)` of a weight block. -/
def wld (x1 : Vec F S256x4096 .bf16) (h : Fin 2) (c : Fin 32) : Vec F S128x128 .bf16 := View.ld x1 (wRect h c)
/-- Tile `t` of the accumulator. -/
def accld (a : Vec F S160x4096 .f32) (t : Fin 16) : Vec F S160x256 .f32 := View.ld a (accRect t)
/-- A row of words out of the stores that filled a word scratch. -/
def wordsOf (L : List (View.Piece (Elt F) S2x32x128 .i32)) (h : Fin 2) (c : Fin 32) : Vec F S1x1x128 .i32 := View.ld (View.canon L) (wordRect h c)

theorem xRead_eq (arg1 : Memref sig Kind.tc Space.vmem S160x256 EltTy.bf16) (harg1 : arg1.IsWhole) (x0 : Vec F S160x256 .bf16) :
    xRead arg1 harg1 x0 = xld x0 := by
  funext h; unfold xRead xld; exact (View.readAt_eq_ld _ _ _).trans (by rw [harg1.read_unread])
theorem wRead_eq (arg2 : Memref sig Kind.tc Space.vmem S256x4096 EltTy.bf16) (harg2 : arg2.IsWhole) (x1 : Vec F S256x4096 .bf16) :
    wRead arg2 harg2 x1 = wld x1 := by
  funext h c; unfold wRead wld; exact (View.readAt_eq_ld _ _ _).trans (by rw [harg2.read_unread])
theorem accRead_eq (arg8 : Memref sig Kind.tc Space.vmem S160x4096 EltTy.f32) (harg8 : arg8.IsWhole) (xs0 : Vec F S160x4096 .f32) :
    accRead arg8 harg8 xs0 = accld xs0 := by
  funext t; unfold accRead accld; exact (View.readAt_eq_ld _ _ _).trans (by rw [harg8.read_unread])
theorem wordRead_eq (arg : Memref sig Kind.tc Space.vmem S2x32x128 EltTy.i32) (L : List (View.Piece (Elt F) S2x32x128 .i32)) :
    wordRead arg L = wordsOf L := by
  funext h c; exact View.readCov_eq_canon' _ _ _

def iwOf (x1 : Vec F S256x4096 .bf16) : Fin 2 → Fin 32 → Vec F S1x1x128 .i32 := wordsOf (invPieces (wld x1))
def swOf (x1 : Vec F S256x4096 .bf16) : Fin 2 → Fin 32 → Vec F S1x1x128 .i32 := wordsOf (scPieces (wld x1))
/-- What the step leaves in each buffer. -/
def stepXc (x0 : Vec F S160x256 .bf16) : Vec F S160x256 .fp8e4m3 := View.canon (xcPieces (xld x0))
def stepWc (x1 : Vec F S256x4096 .bf16) : Vec F S256x4096 .fp8e4m3 := View.canon (wcPieces (wld x1) (iwOf x1))
def stepAcc (x0 : Vec F S160x256 .bf16) (x1 : Vec F S256x4096 .bf16) (a : Vec F S160x4096 .f32) : Vec F S160x4096 .f32 :=
  View.canon (accPieces (xqOf (xld x0)) (qOf (wld x1) (iwOf x1) (swOf x1)) (accld a))
def stepXs (i : grid0.Coords) (x0 : Vec F S160x256 .bf16) (a : Vec F S160x128 .f32) : Vec F S160x128 .f32 :=
  xsStore (laneOf i 1#32) (xld x0 1) (xsStore (laneOf i 0#32) (xld x0 0) a)
def stepWs (i : grid0.Coords) (x1 : Vec F S256x4096 .bf16) (a : Vec F S32x128 .f32) : Vec F S32x128 .f32 :=
  wsStore (BitVec.ofNat 32 (i 0).val) 1#32 (wCol (wld x1 1)) (wsStore (BitVec.ofNat 32 (i 0).val) 0#32 (wCol (wld x1 0)) a)
/-- The scale results of the last step, cut out of the scratches. -/
def stepXsOut (a : Vec F S160x128 .f32) : Vec F S160x1x86 .f32 :=
  View.canon (List.ofFn fun k : Fin 160 => (⟨Rect.unit (s := S160x1x86) ![(rOf k).val, 0, 0] S1x1x86.size (rowOutInb (rOf k)),
    shapeCast S1x1x86 (View.ld a (Rect.unit (s := S160x128) ![(rOf k).val, 0] S1x86.size (rowInb (rOf k)))) shapeCasts_S1x86_S1x1x86⟩ :
      View.Piece (Elt F) S160x1x86 .f32))
def stepWsOut (a : Vec F S32x128 .f32) : Vec F S32x86 .f32 :=
  View.ld a (Rect.unit (s := S32x128) ![0, 0] S32x86.size inb_S32x128_S32x86_0_0)

theorem ld_xsWhole (a : Vec F S160x128 .f32) : View.ld a xsWhole = a := View.ld_unit_zero (by decide) _ _
theorem ld_wsWhole (a : Vec F S32x128 .f32) : View.ld a wsWhole = a := View.ld_unit_zero (by decide) _ _
theorem canon_xs (i : grid0.Coords) (arg9 : Memref sig Kind.tc Space.vmem S160x128 EltTy.f32) (x0 : Vec F S160x256 .bf16) (old : Vec F S160x128 .f32)
    (L : List (View.Piece (Elt F) S160x128 .f32)) : View.canon (xsPieces i arg9 (xld x0) old L) = stepXs i x0 old := by
  unfold xsPieces xsWhole
  rw [View.canon_cons_unit_lit _ _ _ (by decide)]
  unfold stepXs
  congr 1
  rw [View.readCov_eq_canon', View.canon_cons_unit_lit _ _ _ (by decide)]
  exact ld_xsWhole _
theorem canon_ws (i : grid0.Coords) (arg10 : Memref sig Kind.tc Space.vmem S32x128 EltTy.f32) (x1 : Vec F S256x4096 .bf16) (old : Vec F S32x128 .f32)
    (L : List (View.Piece (Elt F) S32x128 .f32)) : View.canon (wsPieces i arg10 (wld x1) old L) = stepWs i x1 old := by
  unfold wsPieces wsWhole
  rw [View.canon_cons_unit_lit _ _ _ (by decide)]
  unfold stepWs
  congr 1
  rw [View.readCov_eq_canon', View.canon_cons_unit_lit _ _ _ (by decide)]
  exact ld_wsWhole _

theorem ld_accWhole (a : Vec F S160x4096 .f32) : View.ld a (Rect.unit (s := S160x4096) ![0, 0] S160x4096.size inb_S160x4096_S160x4096_0_0) = a :=
  View.ld_unit_zero (by decide) _ _
theorem xsRead_eq (arg9 : Memref sig Kind.tc Space.vmem S160x128 EltTy.f32) (harg9 : arg9.IsWhole) (xs1 : Vec F S160x128 .f32) :
    View.readAt (Elt F) arg9.view xsWhole.toLoadRect (harg9.unread xs1) = xs1 :=
  (View.readAt_eq_ld _ _ _).trans (by rw [harg9.read_unread, ld_xsWhole])
theorem wsRead_eq (arg10 : Memref sig Kind.tc Space.vmem S32x128 EltTy.f32) (harg10 : arg10.IsWhole) (xs2 : Vec F S32x128 .f32) :
    View.readAt (Elt F) arg10.view wsWhole.toLoadRect (harg10.unread xs2) = xs2 :=
  (View.readAt_eq_ld _ _ _).trans (by rw [harg10.read_unread, ld_wsWhole])
theorem xsZero_eq (arg9 : Memref sig Kind.tc Space.vmem S160x128 EltTy.f32) (z : Vec F S160x128 .f32) :
    arg9.view.readCov [⟨xsWhole, z⟩] xsWhole.toLoadRect = z := View.readCov_unit_zero _ (by decide) _ _
theorem wsZero_eq (arg10 : Memref sig Kind.tc Space.vmem S32x128 EltTy.f32) (z : Vec F S32x128 .f32) :
    arg10.view.readCov [⟨wsWhole, z⟩] wsWhole.toLoadRect = z := View.readCov_unit_zero _ (by decide) _ _

/-- The tile that holds an entry, and the entry's place in it. -/
theorem acc_cover (y : S160x4096.Idx) : ∃ k : Fin 16, ∀ a, (![0, 256 * (tOf k).val] : Fin 2 → ℕ) a ≤ y a ∧ (y a : ℕ) < (![0, 256 * (tOf k).val] : Fin 2 → ℕ) a + S160x256.size a := by
  have h0 : (y 0).val < 160 := (y 0).isLt
  have h1 : (y 1).val < 4096 := (y 1).isLt
  refine ⟨⟨15 - (y 1).val / 256, by omega⟩, fun a => ?_⟩
  fin_cases a <;> simp [tOf, S160x256] <;> omega

/-- An entry of the accumulator after a step's stores is an entry of its tile. -/
theorem canon_accPieces (xq : FVec F S160x256 .bf16) (q : Fin 16 → Fin 2 → Fin 2 → FVec F S128x128 .bf16) (a : Fin 16 → Vec F S160x256 .f32)
    (t : Fin 16) (x : S160x256.Idx) (y : S160x4096.Idx) (h0 : (y 0).val = (x 0).val) (h1 : (y 1).val = 256 * t.val + (x 1).val) :
    View.canon (accPieces xq q a) y = accTile xq (q t) (a t) x := by
  unfold accPieces accRect
  refine View.canon_ofFn_unit_eq_of_forall (S := S160x4096) (Val := Elt F) (e := .f32) (N := 16) (fun k => ![0, 256 * (tOf k).val]) S160x256.size (fun k => accInb (tOf k))
    (fun k => accTile xq (q (tOf k)) (a (tOf k))) y _ (acc_cover y) fun k x' hx => ?_
  have g1 : (y 1).val = 256 * (tOf k).val + (x' 1).val := hx 1
  have g0 : (y 0).val = 0 + (x' 0).val := hx 0
  have b : (x 1).val < 256 := (x 1).isLt
  have b' : (x' 1).val < 256 := (x' 1).isLt
  have kk : tOf k = t := Fin.ext (by omega)
  have xx : x' = x := by
    funext a; apply Fin.ext
    fin_cases a
    · show (x' 0).val = (x 0).val; omega
    · show (x' 1).val = (x 1).val; rw [kk] at g1; omega
  subst kk xx; rfl

/-- The store that fills the accumulator. -/
abbrev accFill (z : Vec F S160x4096 .f32) : View.Piece (Elt F) S160x4096 .f32 :=
  ⟨Rect.unit (s := S160x4096) ![0, 0] S160x4096.size inb_S160x4096_S160x4096_0_0, z⟩

/-- The first step: the tiles read zeros, so they are the tiles of a step that starts from zeros. -/
theorem canon_accFirst (arg8 : Memref sig Kind.tc Space.vmem S160x4096 EltTy.f32) (xq : FVec F S160x256 .bf16) (q : Fin 16 → Fin 2 → Fin 2 → FVec F S128x128 .bf16)
    (rd : Fin 16 → Vec F S160x256 .f32) (z : Vec F S160x4096 .f32)
    (hrd : ∀ t, rd t = arg8.view.readCov ((accPieces xq q rd ++ [accFill z]).drop (16 - t.val)) (accRect t).toLoadRect) :
    View.canon (accPieces xq q rd ++ [accFill z]) = View.canon (accPieces xq q (accld z)) := by
  have hlen : (accPieces xq q rd).length = 16 := by simp [accPieces]
  have hskip : ∀ (L : List (View.Piece (Elt F) S160x4096 .f32)) (y : S160x4096.Idx), (∀ p ∈ L, y ∉ p.1.set) →
      View.canon (L ++ [accFill z]) y = z y := by
    intro L y
    induction L with
    | nil => intro _; exact congrFun (View.canon_unit_zero (by decide) _ z) y
    | cons p L ih =>
      intro h
      rw [List.cons_append, View.canon_cons_of_not_mem _ _ (h p List.mem_cons_self)]
      exact ih fun p hp => h p (List.mem_cons_of_mem _ hp)
  have hz : ∀ t, rd t = accld z t := by
    intro t
    rw [hrd t, View.readCov_eq_canon', List.drop_append_of_le_length (by omega)]
    funext j
    refine hskip _ _ fun p hp hmem => ?_
    obtain ⟨k, hk, rfl⟩ := List.mem_iff_getElem.mp hp
    rw [List.getElem_drop] at hmem
    simp only [accPieces, List.getElem_ofFn] at hmem
    simp only [List.length_drop, hlen] at hk
    have := (Rect.mem_set_unit.mp hmem) 1
    have e : (((accRect t).toLoadRect.idx j) 1).val = 256 * t.val + 1 * (j 1).val := rfl
    rw [e] at this
    simp [tOf, S160x256] at this
    have := t.isLt
    omega
  have hrd' : rd = accld z := funext hz
  subst hrd'
  funext y
  refine View.canon_append_of_pieces (View.canon (accPieces xq q (accld z))) _ _ ?_ y ?_
  · intro p hp x
    obtain ⟨k, rfl⟩ := (List.mem_ofFn' _ _).mp hp
    exact (canon_accPieces xq q (accld z) (tOf k) x ((accRect (tOf k)).emb x) (by
      show 0 + 1 * (x 0).val = (x 0).val; omega) (by show 256 * (tOf k).val + 1 * (x 1).val = _; omega)).symm
  · obtain ⟨k, hk⟩ := acc_cover y
    refine ⟨⟨accRect (tOf k), accTile xq (q (tOf k)) (accld z (tOf k))⟩, (List.mem_ofFn' _ _).mpr ⟨k, rfl⟩, ?_⟩
    exact (Rect.mem_set_unit (s := S160x4096) (size := S160x256.size) (inb := accInb (tOf k))).mpr hk

end Cert.KernelIdeal.Gen
end
-- ==== Proof.Scale.lean ====
/- The power-of-two block scale as mathematics over the extended reals: the largest power-of-two bit pattern not above a
   value (what the kernel takes), the least power of two above it (what the reference takes), and their agreement. -/
module

public import Idealize.ShloMosaic.PureOps.Ideal
public import Idealize.ShloMosaic.PureOps.Ideal.Laws
public import Idealize.ShloMosaic.PureOps.Reduce
public import Idealize.ShloMosaic.PureOps.Vector

@[expose] public section

set_option maxRecDepth 16384

noncomputable section

namespace Cert.Scale

open Idealize.ShloMosaic

/-- The 32-bit word whose exponent field is `e` and whose other fields are zero. -/
def pat (e : Fin 256) : BitVec 32 := BitVec.ofNat 32 e.val <<< 23

/-- The extended real a 32-bit float word denotes. -/
def word (b : BitVec 32) : EReal := Ideal.ofBits .f32 b

/-- The upper half of a word, read as a bf16. -/
def hi (b : BitVec 32) : BitVec 16 := b.extractLsb' 16 16

theorem pat_toInt : ∀ e : Fin 256, (pat e).toInt = e.val * 8388608 := by decide

theorem pat_fields : ∀ e : Fin 256, ((pat e).extractLsb' 23 8).toNat = e.val ∧ ((pat e).extractLsb' 0 23).toNat = 0
    ∧ ((pat e).extractLsb' 31 1 == 1#1) = false := by decide

theorem hi_fields : ∀ e : Fin 256, ((hi (pat e)).extractLsb' 7 8).toNat = e.val
    ∧ ((hi (pat e)).extractLsb' 0 7).toNat = 0 ∧ ((hi (pat e)).extractLsb' 15 1 == 1#1) = false := by decide

theorem splat_halves : ∀ e : Fin 256, (pat e ||| pat e >>> 16).extractLsb' 16 16 = hi (pat e)
    ∧ (pat e ||| pat e >>> 16).extractLsb' 0 16 = hi (pat e) := by decide

theorem word_pat_zero : word (pat 0) = 0 := by
  obtain ⟨h1, h2, h3⟩ := pat_fields 0
  simp only [word, Ideal.ofBits, Ideal.ieee, h1, h2, h3]; simp

theorem word_pat_top : word (pat 255) = ⊤ := by
  obtain ⟨h1, h2, h3⟩ := pat_fields 255
  simp only [word, Ideal.ofBits, Ideal.ieee, h1, h2, h3]; simp

/-- A word with a zero fraction and a normal exponent field denotes a power of two. -/
theorem ieee_pow (e m : ℕ) {w : ℕ} (b : BitVec w) (ex : ℕ) (h1 : (b.extractLsb' m e).toNat = ex)
    (h2 : (b.extractLsb' 0 m).toNat = 0) (h3 : (b.extractLsb' (e + m) 1 == 1#1) = false) (h4 : ex ≠ 2 ^ e - 1) (h5 : ex ≠ 0) :
    Ideal.ieee e m b = (((2 : ℝ) ^ ((ex : ℤ) - (2 ^ (e - 1) - 1)) : ℝ) : EReal) := by
  simp only [Ideal.ieee, h1, h2, h3]
  rw [if_neg h4, if_neg h5]
  congr 1
  rw [zpow_sub₀ (by norm_num : (2 : ℝ) ≠ 0) _ (m : ℤ), zpow_natCast]
  push_cast
  have : (2 : ℝ) ^ m ≠ 0 := by positivity
  field_simp
  simp

theorem word_pat (e : Fin 256) (h0 : 1 ≤ e.val) (h1 : e.val ≤ 254) :
    word (pat e) = (((2 : ℝ) ^ ((e.val : ℤ) - 127) : ℝ) : EReal) := by
  obtain ⟨g1, g2, g3⟩ := pat_fields e
  exact ieee_pow 8 23 (pat e) e.val g1 g2 g3 (by norm_num; omega) (by omega)

theorem hi_pat (e : Fin 256) (h0 : 1 ≤ e.val) (h1 : e.val ≤ 254) : Ideal.ofBits .bf16 (hi (pat e)) = word (pat e) := by
  rw [word_pat e h0 h1]
  obtain ⟨g1, g2, g3⟩ := hi_fields e
  exact ieee_pow 8 7 (hi (pat e)) e.val g1 g2 g3 (by norm_num; omega) (by omega)

/-- The largest of the 256 patterns whose value is not above `v`. -/
def ladder (v : EReal) : BitVec 32 :=
  (Finset.univ : Finset (Fin 256)).fold IntOp.maxsi 2147483648#32 fun l => if word (pat l) ≤ v then pat l else 0#32

/-- The kernel's scale word of `v`: one exponent up, or the word of 1 when `v` is below every normal power or infinite. -/
def bits (v : EReal) : BitVec 32 :=
  if ladder v = 0#32 ∨ ladder v = 2139095040#32 then 1065353216#32 else ladder v + 8388608#32

/-- The reference's scale of `v`: the least power of two above `v`, or 1 when `v` is tiny or infinite. -/
def refScale (v : EReal) : EReal :=
  if v < (((2 : ℝ) ^ (-126 : ℤ) : ℝ) : EReal) ∨ v = ⊤ then 1
  else (Finset.univ : Finset (Fin 253)).inf fun i =>
    if v < (((2 : ℝ) ^ ((i.val : ℤ) - 125) : ℝ) : EReal) then (((2 : ℝ) ^ ((i.val : ℤ) - 125) : ℝ) : EReal) else ⊤

theorem maxsi_toInt (a b : BitVec 32) : (IntOp.maxsi a b).toInt = max a.toInt b.toInt := by
  simp only [IntOp.maxsi, BitVec.slt, decide_eq_true_eq]
  split_ifs <;> omega

theorem fold_maxsi_toInt {ι : Type*} (s : Finset ι) (b : BitVec 32) (f : ι → BitVec 32) :
    (s.fold IntOp.maxsi b f).toInt = s.fold max b.toInt (fun i => (f i).toInt) :=
  (Finset.fold_hom (op := IntOp.maxsi) (op' := max) (m := BitVec.toInt) maxsi_toInt).symm

/-- The ladder stops at `e` when `e`'s power is not above `v` and every later power is. -/
theorem ladder_eq (v : EReal) (e : Fin 256) (he : word (pat e) ≤ v) (hl : ∀ l : Fin 256, e < l → ¬ word (pat l) ≤ v) :
    ladder v = pat e := by
  apply BitVec.eq_of_toInt_eq
  rw [ladder, fold_maxsi_toInt]
  apply le_antisymm
  · rw [Finset.fold_max_le]
    refine ⟨by rw [pat_toInt]; have : (2147483648#32 : BitVec 32).toInt = -2147483648 := by decide
               rw [this]; omega, fun l _ => ?_⟩
    by_cases h : word (pat l) ≤ v
    · rw [if_pos h, pat_toInt, pat_toInt]
      have : ¬ e < l := fun hh => hl l hh h
      have : l.val ≤ e.val := Nat.le_of_not_lt this
      omega
    · rw [if_neg h, pat_toInt]; have : (0#32 : BitVec 32).toInt = 0 := by decide
      rw [this]; omega
  · rw [Finset.le_fold_max]
    exact Or.inr ⟨e, Finset.mem_univ _, by rw [if_pos he]⟩

theorem pow_le_pow {a b : ℤ} (h : a ≤ b) : (((2 : ℝ) ^ a : ℝ) : EReal) ≤ (((2 : ℝ) ^ b : ℝ) : EReal) :=
  EReal.coe_le_coe_iff.mpr (zpow_le_zpow_right₀ (by norm_num) h)

theorem pat_succ : ∀ e : Fin 254, 1 ≤ e.val → ¬ (pat ⟨e.val, by omega⟩ = 0#32 ∨ pat ⟨e.val, by omega⟩ = 2139095040#32)
    ∧ pat ⟨e.val, by omega⟩ + 8388608#32 = pat ⟨e.val + 1, by omega⟩ := by decide

theorem pat_inv : ∀ s : Fin 254, 1 ≤ s.val → 2130706432#32 - pat ⟨s.val, by omega⟩ = pat ⟨254 - s.val, by omega⟩ := by decide

/-- Kernel and reference take the same scale: some normal power of two, by its exponent field `s`. -/
theorem scale_spec (v : EReal) (h0 : 0 ≤ v) (hv : v < (((2 : ℝ) ^ (120 : ℤ) : ℝ) : EReal) ∨ v = ⊤) :
    ∃ s : Fin 256, 1 ≤ s.val ∧ s.val ≤ 253 ∧ bits v = pat s ∧ refScale v = (((2 : ℝ) ^ ((s.val : ℤ) - 127) : ℝ) : EReal) := by
  have one : (((2 : ℝ) ^ (((⟨127, by omega⟩ : Fin 256).val : ℤ) - 127) : ℝ) : EReal) = 1 := by simp
  have w1 : (1065353216#32 : BitVec 32) = pat ⟨127, by omega⟩ := by decide
  rcases hv with hv | rfl
  · by_cases hs : v < (((2 : ℝ) ^ (-126 : ℤ) : ℝ) : EReal)
    · refine ⟨⟨127, by omega⟩, by simp, by simp, ?_, ?_⟩
      · have : ladder v = pat 0 := by
          refine ladder_eq v 0 (by rw [word_pat_zero]; exact h0) fun l hl => not_le.mpr ?_
          by_cases h255 : l.val = 255
          · have : l = 255 := Fin.ext h255
            rw [this, word_pat_top]; exact lt_of_lt_of_le hv le_top
          · have h1 : 1 ≤ l.val := hl
            rw [word_pat l h1 (by omega)]
            exact lt_of_lt_of_le hs (pow_le_pow (by omega))
        rw [bits, if_pos (Or.inl (by rw [this]; decide)), w1]
      · rw [refScale, if_pos (Or.inl hs), one]
    · -- a normal value: its exponent
      have hs' := not_lt.mp hs
      lift v to ℝ using ⟨ne_top_of_lt hv, fun h => by rw [h] at h0; simp at h0⟩
      have hs'' : (2 : ℝ) ^ (-126 : ℤ) ≤ v := EReal.coe_le_coe_iff.mp hs'
      have hv' : v < (2 : ℝ) ^ (120 : ℤ) := EReal.coe_lt_coe_iff.mp hv
      have hpos : 0 < v := lt_of_lt_of_le (by positivity) hs''
      obtain ⟨n, hn1, hn2⟩ := exists_mem_Ico_zpow (x := v) (y := (2 : ℝ)) hpos (by norm_num)
      have hnl : -126 ≤ n := by
        by_contra hc
        have : (2 : ℝ) ^ (n + 1) ≤ 2 ^ (-126 : ℤ) := zpow_le_zpow_right₀ (by norm_num) (by omega)
        linarith
      have hnu : n < 120 := by
        by_contra hc
        have : (2 : ℝ) ^ (120 : ℤ) ≤ 2 ^ n := zpow_le_zpow_right₀ (by norm_num) (by omega)
        linarith
      obtain ⟨e, rfl⟩ : ∃ e : ℕ, n = (e : ℤ) - 127 := ⟨(n + 127).toNat, by omega⟩
      have he1 : 1 ≤ e := by omega
      have he2 : e < 247 := by omega
      refine ⟨⟨e + 1, by omega⟩, by simp, by show e + 1 ≤ 253; omega, ?_, ?_⟩
      · have : ladder (v : EReal) = pat ⟨e, by omega⟩ := by
          refine ladder_eq _ _ ?_ fun l hl => not_le.mpr ?_
          · rw [word_pat _ he1 (by show e ≤ 254; omega)]; exact EReal.coe_le_coe_iff.mpr hn1
          · have hl' : e < l.val := hl
            by_cases h255 : l.val = 255
            · have : l = 255 := Fin.ext h255
              rw [this, word_pat_top]; exact EReal.coe_lt_top v
            · rw [word_pat l (by omega) (by omega)]
              exact lt_of_lt_of_le (EReal.coe_lt_coe_iff.mpr hn2) (pow_le_pow (by omega))
        obtain ⟨g1, g2⟩ := pat_succ ⟨e, by omega⟩ he1
        rw [bits, this, if_neg g1, g2]
      · rw [refScale, if_neg (by rintro (h | h); exacts [hs h, EReal.coe_ne_top v h])]
        have hup : ((((e + 1 : ℕ) : ℤ)) - 127) = (e : ℤ) - 127 + 1 := by push_cast; ring
        show _ = (((2 : ℝ) ^ (((e + 1 : ℕ) : ℤ) - 127) : ℝ) : EReal)
        rw [hup]
        apply le_antisymm
        · refine (Finset.inf_le (Finset.mem_univ (⟨e - 1, by omega⟩ : Fin 253))).trans ?_
          have hi : (((⟨e - 1, by omega⟩ : Fin 253).val : ℤ)) - 125 = (e : ℤ) - 127 + 1 := by
            show (((e - 1 : ℕ) : ℤ)) - 125 = _; omega
          rw [hi, if_pos (EReal.coe_lt_coe_iff.mpr hn2)]
        · refine Finset.le_inf fun i _ => ?_
          split_ifs with h
          · refine pow_le_pow ?_
            by_contra hc
            have h' := EReal.coe_lt_coe_iff.mp h
            have : (2 : ℝ) ^ ((i.val : ℤ) - 125) ≤ 2 ^ ((e : ℤ) - 127) := zpow_le_zpow_right₀ (by norm_num) (by omega)
            linarith
          · exact le_top
  · refine ⟨⟨127, by omega⟩, by simp, by simp, ?_, ?_⟩
    · have : ladder ⊤ = pat 255 :=
        ladder_eq _ _ le_top fun l hl => absurd hl (by have := l.isLt; show ¬ (255 < l.val); omega)
      rw [bits, if_pos (Or.inr (by rw [this]; decide)), w1]
    · rw [refScale, if_pos (Or.inr rfl), one]

/-- The kernel's scale word denotes the reference's scale. -/
theorem word_bits (v : EReal) (h0 : 0 ≤ v) (hv : v < (((2 : ℝ) ^ (120 : ℤ) : ℝ) : EReal) ∨ v = ⊤) :
    word (bits v) = refScale v := by
  obtain ⟨s, s1, s2, hb, hr⟩ := scale_spec v h0 hv
  rw [hb, hr, word_pat s s1 (by omega)]

/-- The kernel's inverse word denotes one over the reference's scale. -/
theorem word_inv (v : EReal) (h0 : 0 ≤ v) (hv : v < (((2 : ℝ) ^ (120 : ℤ) : ℝ) : EReal) ∨ v = ⊤) :
    word (2130706432#32 - bits v) = Ideal.div 1 (refScale v) := by
  obtain ⟨s, s1, s2, hb, hr⟩ := scale_spec v h0 hv
  have hi := pat_inv ⟨s.val, by omega⟩ s1
  have hp : (0 : ℝ) < 2 ^ ((s.val : ℤ) - 127) := by positivity
  rw [hb, hr]
  rw [show pat s = pat ⟨s.val, by omega⟩ from rfl, hi, word_pat _ (by show 1 ≤ 254 - s.val; omega) (by show 254 - s.val ≤ 254; omega)]
  rw [Ideal.div, if_neg (by exact_mod_cast hp.ne'), one_mul, ← EReal.coe_inv, ← zpow_neg]
  congr 2
  show (((254 - s.val : ℕ) : ℤ)) - 127 = _
  omega

/-- The packed scale word of `v` is the same bf16 in both halves, and that bf16 denotes the scale. -/
theorem splat_bits (v : EReal) (h0 : 0 ≤ v) (hv : v < (((2 : ℝ) ^ (120 : ℤ) : ℝ) : EReal) ∨ v = ⊤) :
    Ideal.ofBits .bf16 ((bits v ||| bits v >>> 16).extractLsb' 16 16) = refScale v
    ∧ Ideal.ofBits .bf16 ((bits v ||| bits v >>> 16).extractLsb' 0 16) = refScale v := by
  obtain ⟨s, s1, s2, hb, hr⟩ := scale_spec v h0 hv
  rw [← word_bits v h0 hv, hb, (splat_halves s).1, (splat_halves s).2, hi_pat s s1 (by omega)]
  exact ⟨rfl, rfl⟩

/-- The packed inverse word likewise. -/
theorem splat_inv (v : EReal) (h0 : 0 ≤ v) (hv : v < (((2 : ℝ) ^ (120 : ℤ) : ℝ) : EReal) ∨ v = ⊤) :
    Ideal.ofBits .bf16 (((2130706432#32 - bits v) ||| (2130706432#32 - bits v) >>> 16).extractLsb' 16 16)
      = Ideal.div 1 (refScale v)
    ∧ Ideal.ofBits .bf16 (((2130706432#32 - bits v) ||| (2130706432#32 - bits v) >>> 16).extractLsb' 0 16)
      = Ideal.div 1 (refScale v) := by
  rw [← word_inv v h0 hv]
  obtain ⟨s, s1, s2, hb, -⟩ := scale_spec v h0 hv
  have hi := pat_inv ⟨s.val, by omega⟩ s1
  rw [hb, show pat s = pat ⟨s.val, by omega⟩ from rfl, hi, (splat_halves _).1, (splat_halves _).2,
    hi_pat _ (by show 1 ≤ 254 - s.val; omega) (by show 254 - s.val ≤ 254; omega)]
  exact ⟨rfl, rfl⟩

end Cert.Scale
end
-- ==== Proof.Quant.lean ====
/- The quantiser over the extended reals: the peak of a block, its scale, the codes. -/
module
public import proofs.«01_k».proof.Proof.Scale
@[expose] public section
noncomputable section
namespace Cert.Quant
open Idealize.ShloMosaic Cert.Scale

/-- The inverse of the largest code, and the largest and smallest codes, as the programs' constants denote them. -/
def inv448 : EReal := Ideal.ofBits .f32 991054117#32
def top448 : EReal := Ideal.ofBits .f32 1138753536#32
def bot448 : EReal := Ideal.ofBits .f32 3286237184#32

/-- The largest magnitude of a row, and of a block. -/
def peak {n : ℕ} (f : Fin n → EReal) : EReal := Finset.univ.fold max ⊥ fun l => max (f l) (-f l)
def peak2 {n k : ℕ} (f : Fin n → Fin k → EReal) : EReal := Finset.univ.fold max ⊥ fun l => peak fun r => f r l

/-- The values the ladder of powers reads: not negative, and either below `2 ^ 120` or infinite. -/
def Ok (v : EReal) : Prop := 0 ≤ v ∧ (v < (((2 : ℝ) ^ (120 : ℤ) : ℝ) : EReal) ∨ v = ⊤)

/-- A code: the value over the scale, clipped. -/
def code (x s : EReal) : EReal := min top448 (max bot448 (x * Ideal.div 1 s))

theorem neg_inf_f32 : Ideal.ofBits .f32 4286578688#32 = ⊥ := by simp [Ideal.ofBits, Ideal.ieee]
theorem neg_inf_bf16 : Ideal.ofBits .bf16 65408#16 = ⊥ := by simp [Ideal.ofBits, Ideal.ieee]

theorem peak_le {n : ℕ} (f : Fin n → EReal) (b : EReal) : peak f ≤ b ↔ ∀ l, max (f l) (-f l) ≤ b := by
  unfold peak; rw [Finset.fold_max_le]; simp
theorem peak2_le {n k : ℕ} (f : Fin n → Fin k → EReal) (b : EReal) : peak2 f ≤ b ↔ ∀ r l, max (f r l) (-f r l) ≤ b := by
  unfold peak2; rw [Finset.fold_max_le]; simp only [bot_le, true_and, Finset.mem_univ, forall_const, peak_le]
  exact forall_comm

/-- The two comparisons of the ladder's result, as one choice. -/
theorem select_special (a b c x y : BitVec 32) :
    Scalar.select (IntOp.ori (IntOp.cmpi .eq a b) (IntOp.cmpi .eq a c)) x y = if a = b ∨ a = c then x else y := by
  have e (d : BitVec 32) : IntOp.cmpi .eq a d = BitVec.ofBool (decide (a = d)) := congrArg BitVec.ofBool (by rw [Bool.eq_iff_iff]; simp)
  rw [e, e]
  by_cases h1 : a = b
  · rw [decide_eq_true h1, if_pos (Or.inl h1)]; cases decide (a = c) <;> rfl
  · by_cases h2 : a = c
    · rw [decide_eq_false h1, decide_eq_true h2, if_pos (Or.inr h2)]; rfl
    · rw [decide_eq_false h1, decide_eq_false h2, if_neg (not_or.mpr ⟨h1, h2⟩)]; rfl

theorem shl_pat (l : Fin 256) : IntOp.shli ArithUnit.vector (BitVec.ofNat 32 l.val) 23#32 = pat l := by
  simp [IntOp.shli, pat]

theorem ladder_read (v : EReal) : (Finset.univ.fold IntOp.maxsi 2147483648#32 fun l : Fin 256 =>
    if Ideal.ofBits .f32 (IntOp.shli ArithUnit.vector (BitVec.ofNat 32 l.val) 23#32) ≤ v then
      IntOp.shli ArithUnit.vector (BitVec.ofNat 32 l.val) 23#32 else 0#32) = ladder v := by
  simp only [shl_pat]; rfl
end Cert.Quant
end
-- ==== Proof.Read.lean ====
/- The step's blocks at an index, over the extended reals. -/
module
public import proofs.«01_k».proof.Proof.Step
public import proofs.«01_k».proof.Proof.Quant
public import Idealize.ShloMosaic.Lib.Pointwise.Tactic
public import Idealize.ShloMosaic.Lib.BitcastPair
@[expose] public section
set_option maxRecDepth 16384
noncomputable section
namespace Cert.KernelIdeal.Gen
open Idealize.ShloMosaic Idealize.ShloMosaic.TcCoe Idealize.ShloMosaic.Tactic
open Cert.Scale Cert.Quant

/-- The scaled peak of row `r` of an activation half. -/
def vx (v : Vec Ideal S160x128 .bf16) (r : Fin 160) : EReal := peak (fun l : Fin 128 => v (ix2 r l)) * inv448

theorem xBits_apply (v : Vec Ideal S160x128 .bf16) (r : Fin 160) (j : Fin 1) : xBits v (ix2 r j) = bits (vx v r) := by
  unfold xBits
  pointwise [k0_pay165, k0_pay166]
  simp only [Ideal.absf_def, neg_inf_f32]
  rw [ladder_read, select_special]
  rfl

theorem xScale_apply (v : Vec Ideal S160x128 .bf16) (r : Fin 160) (j : Fin 1) (h : Ok (vx v r)) : xScale v (ix2 r j) = refScale (vx v r) := by
  rw [← word_bits _ h.1 h.2, ← xBits_apply v r j]
  rfl

theorem xCodes_apply (v : Vec Ideal S160x128 .bf16) (r : Fin 160) (l : Fin 128) (h : Ok (vx v r)) :
    xCodes v (ix2 r l) = code (v (ix2 r l)) (refScale (vx v r)) := by
  unfold code
  rw [← word_inv _ h.1 h.2, ← xBits_apply v r 0]
  unfold xCodes fp8max
  pointwise [k0_pay168, k0_pay169, k0_pay165]
  rfl

theorem xDeq_apply (v : Vec Ideal S160x128 .bf16) (r : Fin 160) (l : Fin 128) (h : Ok (vx v r)) :
    xDeq v (ix2 r l) = code (v (ix2 r l)) (refScale (vx v r)) * refScale (vx v r) := by
  rw [← xCodes_apply v r l h]
  rw [← xScale_apply v r 0 h]
  unfold xDeq
  pointwise [k0_pay170]
  rfl

theorem k0_pay181_apply (v : Vec Ideal S128x128 .bf16) (r : Fin 1) (l : Fin 128) : k0_pay181 v (ix2 r l) = peak fun r : Fin 128 => v (ix2 r l) := by
  pointwise [k0_pay181]
  simp only [Ideal.absf_def, neg_inf_f32, neg_inf_bf16]
  refine eq_of_forall_ge_iff fun b => ?_
  rw [peak_le]
  simp only [Finset.fold_max_le, bot_le, true_and, Finset.mem_univ, forall_const]
  constructor
  · intro h r
    have := h ⟨r.val % 16, by omega⟩ ⟨r.val / 16, by omega⟩
    have e : (⟨r.val / 16 * 16 + r.val % 16, by omega⟩ : Fin 128) = r := Fin.ext (by show r.val / 16 * 16 + r.val % 16 = r.val; omega)
    simpa only [e] using this
  · intro h a b; exact h _

/-- The scaled peak of a weight block. -/
def vw (v : Vec Ideal S128x128 .bf16) : EReal := peak2 (fun r l : Fin 128 => v (ix2 r l)) * inv448

theorem wCol_apply (W : Fin 32 → Vec Ideal S128x128 .bf16) (c : Fin 32) (j : Fin 1) : wCol W (ix2 c j) = vw (W c) := by
  unfold wCol
  pointwise
  simp only [neg_inf_f32, k0_pay181_apply]
  rfl

theorem wBits_apply (v : FVec Ideal S32x1 .f32) (c : Fin 32) (j : Fin 1) : wBits v (ix2 c j) = bits (v (ix2 c 0)) := by
  unfold wBits
  pointwise [k0_pay250, k0_pay249]
  rw [ladder_read, select_special]
  rfl

theorem scWords_apply (v : FVec Ideal S32x1 .f32) (c : Fin 32) (l : Fin 128) :
    scWords v (ix3 0 c l) = bits (v (ix2 c 0)) ||| bits (v (ix2 c 0)) >>> 16 := by
  rw [← wBits_apply v c 0]
  unfold scWords
  pointwise [k0_pay254, k0_pay251]
  rfl
theorem invWords_apply (v : FVec Ideal S32x1 .f32) (c : Fin 32) (l : Fin 128) :
    invWords v (ix3 0 c l) = (2130706432#32 - bits (v (ix2 c 0))) ||| (2130706432#32 - bits (v (ix2 c 0))) >>> 16 := by
  rw [← wBits_apply v c 0]
  unfold invWords
  pointwise [k0_pay256, k0_pay252, k0_pay255]
  rfl

end Cert.KernelIdeal.Gen
end
-- ==== Proof.Read2.lean ====
/- The stores of a step at an index, over the extended reals. -/
module
public import proofs.«01_k».proof.Proof.Read
@[expose] public section
set_option maxRecDepth 16384
noncomputable section
namespace Cert.KernelIdeal.Gen
open Idealize.ShloMosaic Idealize.ShloMosaic.TcCoe Idealize.ShloMosaic.Tactic
open Cert.Scale Cert.Quant

/-- A row of words that are all one packed pair reads, as bf16, the pair's common value. -/
theorem splat_row (iw : Vec Ideal S1x1x128 .i32) (B : BitVec 32) (s : EReal) (h : ∀ l : Fin 128, iw (ix3 0 0 l) = B)
    (hs : Ideal.ofBits .bf16 (B.extractLsb' 16 16) = s ∧ Ideal.ofBits .bf16 (B.extractLsb' 0 16) = s) (j : S16x128.Idx) :
    Ideal.ofBits .bf16 (bitcast S16x128 16 (broadcastTo S8x128 (shapeCast S1x128 iw shapeCasts_S1x1x128_S1x128) broadcasts_S1x128_S8x128)
      bitcasts_S8x128_w32_S16x128_w16 j) = s := by
  have hb : ∀ i : S8x128.Idx, broadcastTo S8x128 (shapeCast S1x128 iw shapeCasts_S1x1x128_S1x128) broadcasts_S1x128_S8x128 i = B := by
    intro i
    rw [eq_ix2 i]
    pointwise
    exact h _
  rw [bitcast_32_16, hb]
  rcases Nat.mod_two_eq_zero_or_one (S16x128.row j) with e | e <;> rw [e]
  · exact hs.2
  · exact hs.1

theorem codesBlk_apply (v : Vec Ideal S128x128 .bf16) (iw : Vec Ideal S1x1x128 .i32) (s : EReal)
    (hi : ∀ l : Fin 128, iw (ix3 0 0 l) = (2130706432#32 - bits s) ||| (2130706432#32 - bits s) >>> 16) (hs : Ok s) (r l : Fin 128) :
    codesBlk v iw (ix2 r l) = code (v (ix2 r l)) (refScale s) := by
  unfold codesBlk
  pointwise [k0_pay257]
  rw [splat_row iw _ _ hi (splat_inv s hs.1 hs.2)]
  rfl

theorem deqBlk_apply (v : Vec Ideal S128x128 .bf16) (iw sw : Vec Ideal S1x1x128 .i32) (s : EReal)
    (hi : ∀ l : Fin 128, iw (ix3 0 0 l) = (2130706432#32 - bits s) ||| (2130706432#32 - bits s) >>> 16)
    (hw : ∀ l : Fin 128, sw (ix3 0 0 l) = bits s ||| bits s >>> 16) (hs : Ok s) (r l : Fin 128) :
    deqBlk v iw sw (ix2 r l) = code (v (ix2 r l)) (refScale s) * refScale s := by
  rw [← codesBlk_apply v iw s hi hs]
  unfold deqBlk
  pointwise [k0_pay258]
  rw [splat_row sw _ _ hw (splat_bits s hs.1 hs.2)]
  rfl

/-- A row of a word scratch after its two stores. -/
theorem words_row (P : Fin 2 → IVec S1x32x128 32) (h : Fin 2) (c : Fin 32) (l : Fin 128) :
    wordsOf (F := Ideal) [⟨wordsRect 1, P 1⟩, ⟨wordsRect 0, P 0⟩] h c (ix3 0 0 l) = P h (ix3 0 c l) := by
  have key : ∀ y : S2x32x128.Idx, (y 0).val = h.val → (y 1).val = c.val → (y 2).val = l.val →
      View.canon (Val := Elt Ideal) (e := .i32) (List.ofFn fun k : Fin 2 => ⟨Rect.unit (s := S2x32x128) ![(Fin.rev k).val, 0, 0] S1x32x128.size (wordsInb (Fin.rev k)), P (Fin.rev k)⟩) y = P h (ix3 0 c l) := by
    intro y h0 h1 h2
    refine View.canon_ofFn_unit_eq_of_forall (S := S2x32x128) (Val := Elt Ideal) (e := .i32) (N := 2) (fun k => ![(Fin.rev k).val, 0, 0]) S1x32x128.size
      (fun k => wordsInb (Fin.rev k)) (fun k => P (Fin.rev k)) y _ ⟨Fin.rev h, fun a => ?_⟩ fun k x hx => ?_
    · have := c.isLt; have := l.isLt
      fin_cases a <;> simp [S1x32x128] <;> omega
    · have g0 : (y 0).val = (Fin.rev k).val + (x 0).val := hx 0
      have g1 : (y 1).val = 0 + (x 1).val := hx 1
      have g2 : (y 2).val = 0 + (x 2).val := hx 2
      have b0 : (x 0).val < 1 := (x 0).isLt
      have kk : Fin.rev k = h := Fin.ext (by omega)
      have xx : x = ix3 0 c l := by
        funext a; apply Fin.ext
        fin_cases a
        · show (x 0).val = 0; omega
        · show (x 1).val = c.val; omega
        · show (x 2).val = l.val; omega
      show P (Fin.rev k) x = _
      rw [kk, xx]
  exact key _ rfl (by show c.val + 1 * 0 = _; omega) (by show 0 + 1 * l.val = _; omega)

theorem iwOf_apply (x1 : Vec Ideal S256x4096 .bf16) (h : Fin 2) (c : Fin 32) (l : Fin 128) :
    iwOf x1 h c (ix3 0 0 l) = (2130706432#32 - bits (vw (wld x1 h c))) ||| (2130706432#32 - bits (vw (wld x1 h c))) >>> 16 := by
  rw [← wCol_apply (wld x1 h) c 0, ← invWords_apply _ c l]
  exact words_row (fun h => invWords (wCol (wld x1 h))) h c l
theorem swOf_apply (x1 : Vec Ideal S256x4096 .bf16) (h : Fin 2) (c : Fin 32) (l : Fin 128) :
    swOf x1 h c (ix3 0 0 l) = bits (vw (wld x1 h c)) ||| bits (vw (wld x1 h c)) >>> 16 := by
  rw [← wCol_apply (wld x1 h) c 0, ← scWords_apply _ c l]
  exact words_row (fun h => scWords (wCol (wld x1 h))) h c l

/-- A choice between the two halves of 256 lanes. -/
theorem pick_half {α : Type} (Y : Fin 2 → Fin 128 → α) (k : Fin 256) :
    Y ⟨k.val / 128, by omega⟩ ⟨k.val % 128, by omega⟩ = if h : k.val < 128 then Y 0 ⟨k.val, h⟩ else Y 1 ⟨k.val - 128, by omega⟩ := by
  have := k.isLt
  split
  · rw [show (⟨k.val / 128, by omega⟩ : Fin 2) = 0 from Fin.ext (by show k.val / 128 = 0; omega),
      show (⟨k.val % 128, by omega⟩ : Fin 128) = ⟨k.val, by omega⟩ from Fin.ext (by show k.val % 128 = k.val; omega)]
  · rw [show (⟨k.val / 128, by omega⟩ : Fin 2) = 1 from Fin.ext (by show k.val / 128 = 1; omega),
      show (⟨k.val % 128, by omega⟩ : Fin 128) = ⟨k.val - 128, by omega⟩ from Fin.ext (by show k.val % 128 = k.val - 128; omega)]

theorem select_eq {α : Type} (a b : BitVec 32) (x y : α) : Scalar.select (IntOp.cmpi .eq a b) x y = if a = b then x else y := by
  by_cases h : a = b
  · simp [Scalar.select, IntOp.cmpi, h]
  · simp [Scalar.select, IntOp.cmpi, h, beq_eq_false_iff_ne.mpr h]

/-- One entry of a tile: the old entry plus the products over the step's 256 rows. -/
theorem accTile_apply (xq : FVec Ideal S160x256 .bf16) (q : Fin 2 → Fin 2 → FVec Ideal S128x128 .bf16) (acc : Vec Ideal S160x256 .f32) (r : Fin 160) (j : Fin 256) :
    accTile xq q acc (ix2 r j) = acc (ix2 r j) + ∑ k : Fin 256, xq (ix2 r k) *
      q ⟨k.val / 128, by omega⟩ ⟨j.val / 128, by omega⟩ (ix2 ⟨k.val % 128, by omega⟩ ⟨j.val % 128, by omega⟩) := by
  unfold accTile
  pointwise
  congr 1
  refine Eq.symm ((Fin.sum_univ_add (a := 128) (b := 128) (fun k : Fin 256 => xq (ix2 r k) *
      q ⟨k.val / 128, by omega⟩ ⟨j.val / 128, by omega⟩ (ix2 ⟨k.val % 128, by omega⟩ ⟨j.val % 128, by omega⟩))).trans (Eq.symm ?_))
  congr 1
  · refine Finset.sum_congr rfl fun x _ => ?_
    rw [← pick_half (fun b l => q 0 b (ix2 x l)) j]
    have e : (⟨(Fin.castAdd 128 x).val / 128, by have := x.isLt; simp; omega⟩ : Fin 2) = 0 := Fin.ext (by have := x.isLt; simp)
    have e' : (⟨(Fin.castAdd 128 x).val % 128, by omega⟩ : Fin 128) = x := Fin.ext (by have := x.isLt; simp)
    rw [e, e']
    rfl
  · refine Finset.sum_congr rfl fun x _ => ?_
    rw [← pick_half (fun b l => q 1 b (ix2 x l)) j]
    have e : (⟨(Fin.natAdd 128 x).val / 128, by have := x.isLt; simp⟩ : Fin 2) = 1 := Fin.ext (by have := x.isLt; simp)
    have e' : (⟨(Fin.natAdd 128 x).val % 128, by omega⟩ : Fin 128) = x := Fin.ext (by have := x.isLt; simp)
    rw [e, e']
    rfl

theorem xqOf_apply (X : Fin 2 → Vec Ideal S160x128 .bf16) (r : Fin 160) (k : Fin 256) :
    xqOf X (ix2 r k) = xDeq (X ⟨k.val / 128, by omega⟩) (ix2 r ⟨k.val % 128, by omega⟩) := by
  unfold xqOf
  pointwise
  exact (pick_half (fun b l => xDeq (X b) (ix2 r l)) k).symm

theorem xsStore_apply (lane : BitVec 32) (v : Vec Ideal S160x128 .bf16) (old : Vec Ideal S160x128 .f32) (r : Fin 160) (l : Fin 128) (h : Ok (vx v r)) :
    xsStore lane v old (ix2 r l) = if BitVec.ofNat 32 l.val = lane then refScale (vx v r) else old (ix2 r l) := by
  rw [← xScale_apply v r 0 h]
  unfold xsStore
  pointwise [k0_pay171]
  exact select_eq _ _ _ _

theorem wsStore_apply (step h : BitVec 32) (v : FVec Ideal S32x1 .f32) (old : Vec Ideal S32x128 .f32) (c : Fin 32) (l : Fin 128) (hv : Ok (v (ix2 c 0))) :
    wsStore step h v old (ix2 c l) = if BitVec.ofNat 32 l.val = Scalar.addi (Scalar.muli step 2#32) h then refScale (v (ix2 c 0)) else old (ix2 c l) := by
  rw [← word_bits _ hv.1 hv.2, ← wBits_apply v c 0]
  unfold wsStore
  pointwise [k0_pay251]
  exact select_eq _ _ _ _

end Cert.KernelIdeal.Gen
end
-- ==== Proof.Closed.lean ====
/- The problem's mathematics as functions of plain tables, and one grid step in its terms. -/
module
public import proofs.«01_k».proof.Proof.Read2
@[expose] public section
set_option maxRecDepth 16384
noncomputable section
namespace Cert.Quant
open Idealize.ShloMosaic
open Cert.Scale

/-- The scaled peak of activation row `r`, group `g`. -/
def vX (X : Fin 160 → Fin 11008 → EReal) (r : Fin 160) (g : Fin 86) : EReal :=
  peak (fun l : Fin 128 => X r ⟨128 * g.val + l.val, by omega⟩) * inv448
/-- The scaled peak of weight block `(g, c)`. -/
def vW (W : Fin 11008 → Fin 4096 → EReal) (g : Fin 86) (c : Fin 32) : EReal :=
  peak2 (fun r l : Fin 128 => W ⟨128 * g.val + r.val, by omega⟩ ⟨128 * c.val + l.val, by omega⟩) * inv448
/-- The scales. -/
def sX (X : Fin 160 → Fin 11008 → EReal) (r : Fin 160) (g : Fin 86) : EReal := refScale (vX X r g)
def sW (W : Fin 11008 → Fin 4096 → EReal) (g : Fin 86) (c : Fin 32) : EReal := refScale (vW W g c)
/-- The codes. -/
def cX (X : Fin 160 → Fin 11008 → EReal) (r : Fin 160) (i : Fin 11008) : EReal := code (X r i) (sX X r ⟨i.val / 128, by omega⟩)
def cW (W : Fin 11008 → Fin 4096 → EReal) (i : Fin 11008) (j : Fin 4096) : EReal :=
  code (W i j) (sW W ⟨i.val / 128, by omega⟩ ⟨j.val / 128, by omega⟩)
/-- One product of the linear map. -/
def term (X : Fin 160 → Fin 11008 → EReal) (W : Fin 11008 → Fin 4096 → EReal) (r : Fin 160) (j : Fin 4096) (i : Fin 11008) : EReal :=
  (cX X r i * sX X r ⟨i.val / 128, by omega⟩) * (cW W i j * sW W ⟨i.val / 128, by omega⟩ ⟨j.val / 128, by omega⟩)
/-- The same, by a natural number. -/
def termN (X : Fin 160 → Fin 11008 → EReal) (W : Fin 11008 → Fin 4096 → EReal) (r : Fin 160) (j : Fin 4096) (i : ℕ) : EReal :=
  if h : i < 11008 then term X W r j ⟨i, h⟩ else 0
theorem termN_sum (X : Fin 160 → Fin 11008 → EReal) (W : Fin 11008 → Fin 4096 → EReal) (r : Fin 160) (j : Fin 4096) :
    ∑ i ∈ Finset.range 11008, termN X W r j i = ∑ i : Fin 11008, term X W r j i := by
  rw [Finset.sum_range]
  exact Finset.sum_congr rfl fun i _ => dif_pos i.isLt

end Cert.Quant

namespace Cert.KernelIdeal.Gen
open Idealize.ShloMosaic Idealize.ShloMosaic.TcCoe Idealize.ShloMosaic.Tactic
open Cert.Scale Cert.Quant

theorem at2 {a b : ℕ} {α : Type} {z : α} (x : (⟨2, ![a, b]⟩ : Shape).Idx → α) {i j : (⟨2, ![a, b]⟩ : Shape).Idx} (h0 : (i 0).val = (j 0).val) (h1 : (i 1).val = (j 1).val) : x i = x j := by
  congr 1; funext k; apply Fin.ext
  fin_cases k
  · exact h0
  · exact h1

/-- The step's block of activations and of weights are those of step `n`. -/
def IsX (X : Fin 160 → Fin 11008 → EReal) (n : Fin 43) (x0 : Vec Ideal S160x256 .bf16) : Prop :=
  ∀ (r : Fin 160) (k : Fin 256), x0 (ix2 r k) = X r ⟨256 * n.val + k.val, by omega⟩
def IsW (W : Fin 11008 → Fin 4096 → EReal) (n : Fin 43) (x1 : Vec Ideal S256x4096 .bf16) : Prop :=
  ∀ (k : Fin 256) (j : Fin 4096), x1 (ix2 k j) = W ⟨256 * n.val + k.val, by omega⟩ j

variable {X : Fin 160 → Fin 11008 → EReal} {W : Fin 11008 → Fin 4096 → EReal} {n : Fin 43}
  {x0 : Vec Ideal S160x256 .bf16} {x1 : Vec Ideal S256x4096 .bf16}

theorem xld_apply (hx : IsX X n x0) (h : Fin 2) (r : Fin 160) (l : Fin 128) :
    xld x0 h (ix2 r l) = X r ⟨128 * (2 * n.val + h.val) + l.val, by omega⟩ := by
  have e := hx r ⟨128 * h.val + l.val, by omega⟩
  refine Eq.trans ?_ (e.trans (congrArg (X r) (Fin.ext (by show 256 * n.val + (128 * h.val + l.val) = 128 * (2 * n.val + h.val) + l.val; omega))))
  exact at2 (z := (0 : EReal)) x0 (by show 0 + 1 * r.val = r.val; omega) (by show 128 * h.val + 1 * l.val = _; rw [one_mul]; rfl)
theorem wld_apply (hw : IsW W n x1) (h : Fin 2) (c : Fin 32) (r l : Fin 128) :
    wld x1 h c (ix2 r l) = W ⟨128 * (2 * n.val + h.val) + r.val, by omega⟩ ⟨128 * c.val + l.val, by omega⟩ := by
  have e := hw ⟨128 * h.val + r.val, by omega⟩ ⟨128 * c.val + l.val, by omega⟩
  refine Eq.trans ?_ (e.trans (congrArg (fun i => W i _) (Fin.ext (by show 256 * n.val + (128 * h.val + r.val) = 128 * (2 * n.val + h.val) + r.val; omega))))
  exact at2 (z := (0 : EReal)) x1 (by show 128 * h.val + 1 * r.val = _; rw [one_mul]; rfl) (by show 128 * c.val + 1 * l.val = _; rw [one_mul]; rfl)

theorem vx_xld (hx : IsX X n x0) (h : Fin 2) (r : Fin 160) : vx (xld x0 h) r = vX X r ⟨2 * n.val + h.val, by omega⟩ := by
  unfold vx vX
  simp only [xld_apply hx]
theorem vw_wld (hw : IsW W n x1) (h : Fin 2) (c : Fin 32) : vw (wld x1 h c) = vW W ⟨2 * n.val + h.val, by omega⟩ c := by
  unfold vw vW
  simp only [wld_apply hw]

/-- The two stores of the activation codes. -/
theorem stepXc_apply (hX : ∀ r g, Ok (vX X r g)) (hx : IsX X n x0) (y : S160x256.Idx) :
    stepXc x0 y = cX X ⟨(y 0).val, (y 0).isLt⟩ ⟨256 * n.val + (y 1).val, by have : (y 1).val < 256 := (y 1).isLt; omega⟩ := by
  have b0 : (y 0).val < 160 := (y 0).isLt
  have b1 : (y 1).val < 256 := (y 1).isLt
  refine View.canon_ofFn_unit_eq_of_forall (S := S160x256) (Val := Elt Ideal) (e := .fp8e4m3) (N := 2) (fun k => ![0, 128 * (Fin.rev k).val]) S160x128.size
    (fun k => xInb (Fin.rev k)) (fun k => xCodes (xld x0 (Fin.rev k))) y _ ⟨Fin.rev ⟨(y 1).val / 128, by omega⟩, fun a => ?_⟩ fun k x hx' => ?_
  · fin_cases a <;> simp [S160x128] <;> omega
  · have g0 : (y 0).val = 0 + (x 0).val := hx' 0
    have g1 : (y 1).val = 128 * (Fin.rev k).val + (x 1).val := hx' 1
    generalize Fin.rev k = h at *
    have bx : (x 1).val < 128 := (x 1).isLt
    have hh := h.isLt
    have ex : x = ix2 ⟨(y 0).val, b0⟩ ⟨(y 1).val % 128, by omega⟩ := by
      funext a; apply Fin.ext
      fin_cases a
      · show (x 0).val = (y 0).val; omega
      · show (x 1).val = (y 1).val % 128; omega
    show xCodes (xld x0 h) x = _
    rw [ex, xCodes_apply _ _ _ (by rw [vx_xld hx]; exact hX _ _), vx_xld hx, xld_apply hx]
    unfold cX sX
    congr 2
    · apply Fin.ext; show 128 * (2 * n.val + h.val) + (y 1).val % 128 = 256 * n.val + (y 1).val; omega
    · congr 1; apply Fin.ext; show 2 * n.val + h.val = (256 * n.val + (y 1).val) / 128; omega

/-- The 64 stores of the weight codes. -/
theorem stepWc_apply (hW : ∀ g c, Ok (vW W g c)) (hw : IsW W n x1) (y : S256x4096.Idx) :
    stepWc x1 y = cW W ⟨256 * n.val + (y 0).val, by have : (y 0).val < 256 := (y 0).isLt; omega⟩ ⟨(y 1).val, (y 1).isLt⟩ := by
  have b0 : (y 0).val < 256 := (y 0).isLt
  have b1 : (y 1).val < 4096 := (y 1).isLt
  unfold stepWc wcPieces wRect
  refine View.canon_ofFn_unit_eq_of_forall (S := S256x4096) (Val := Elt Ideal) (e := .fp8e4m3) (N := 64) (fun k => ![128 * (hOf k).val, 128 * (cOf k).val]) S128x128.size
    (fun k => wInb (hOf k) (cOf k)) (fun k => codesBlk (wld x1 (hOf k) (cOf k)) (iwOf x1 (hOf k) (cOf k))) y _
    ⟨⟨2 * (31 - (y 1).val / 128) + (1 - (y 0).val / 128), by omega⟩, fun a => ?_⟩ fun k x hx' => ?_
  · fin_cases a <;> simp [hOf, cOf, S128x128] <;> omega
  · have g0 : (y 0).val = 128 * (hOf k).val + (x 0).val := hx' 0
    have g1 : (y 1).val = 128 * (cOf k).val + (x 1).val := hx' 1
    generalize hOf k = h at *
    generalize cOf k = c at *
    have bx0 : (x 0).val < 128 := (x 0).isLt
    have bx1 : (x 1).val < 128 := (x 1).isLt
    have ex : x = ix2 ⟨(y 0).val % 128, by omega⟩ ⟨(y 1).val % 128, by omega⟩ := by
      funext a; apply Fin.ext
      fin_cases a
      · show (x 0).val = (y 0).val % 128; omega
      · show (x 1).val = (y 1).val % 128; omega
    show codesBlk (wld x1 h c) (iwOf x1 h c) x = _
    rw [ex, codesBlk_apply _ _ _ (iwOf_apply x1 h c) (by rw [vw_wld hw]; exact hW _ _), vw_wld hw, wld_apply hw]
    unfold cW sW
    congr 2
    · apply Fin.ext; show 128 * (2 * n.val + h.val) + (y 0).val % 128 = 256 * n.val + (y 0).val; omega
    · apply Fin.ext; show 128 * c.val + (y 1).val % 128 = (y 1).val; omega
    · congr 1 <;> apply Fin.ext
      · show 2 * n.val + h.val = (256 * n.val + (y 0).val) / 128; omega
      · show c.val = (y 1).val / 128; omega

/-- The accumulator's entry after a step. -/
theorem stepAcc_apply (hX : ∀ r g, Ok (vX X r g)) (hW : ∀ g c, Ok (vW W g c)) (hx : IsX X n x0) (hw : IsW W n x1)
    (a : Vec Ideal S160x4096 .f32) (r : Fin 160) (j : Fin 4096) :
    stepAcc x0 x1 a (ix2 r j) = a (ix2 r j) + ∑ k ∈ Finset.range 256, termN X W r j (256 * n.val + k) := by
  unfold stepAcc
  rw [canon_accPieces _ _ _ ⟨j.val / 256, by omega⟩ (ix2 r ⟨j.val % 256, by omega⟩) (ix2 r j) rfl
    (by show j.val = 256 * (j.val / 256) + j.val % 256; omega), accTile_apply, Finset.sum_range]
  congr 1
  · exact at2 (z := (0 : EReal)) a (by show 0 + 1 * r.val = r.val; omega) (by show 256 * (j.val / 256) + 1 * (j.val % 256) = j.val; omega)
  · refine Finset.sum_congr rfl fun k _ => ?_
    have hk := k.isLt
    rw [xqOf_apply, xDeq_apply _ _ _ (by rw [vx_xld hx]; exact hX _ _), vx_xld hx, xld_apply hx]
    show _ * deqBlk (wld x1 _ _) (iwOf x1 _ _) (swOf x1 _ _) _ = _
    rw [deqBlk_apply _ _ _ _ (iwOf_apply x1 _ _) (swOf_apply x1 _ _) (by rw [vw_wld hw]; exact hW _ _), vw_wld hw, wld_apply hw]
    rw [termN, dif_pos (by omega)]
    unfold term cX cW sX sW
    have e1 : ∀ h, (⟨128 * (2 * n.val + k.val / 128) + k.val % 128, h⟩ : Fin 11008) = ⟨256 * n.val + k.val, by omega⟩ := fun _ => Fin.ext (by dsimp only; omega)
    have e2 : ∀ h, (⟨2 * n.val + k.val / 128, h⟩ : Fin 86) = ⟨(256 * n.val + k.val) / 128, by omega⟩ := fun _ => Fin.ext (by dsimp only; omega)
    have e3 : colOf ⟨j.val / 256, by omega⟩ ⟨j.val % 256 / 128, by omega⟩ = ⟨j.val / 128, by omega⟩ := Fin.ext (by show 2 * (j.val / 256) + j.val % 256 / 128 = j.val / 128; omega)
    have e4 : ∀ h, (⟨128 * (j.val / 128) + j.val % 256 % 128, h⟩ : Fin 4096) = j := fun _ => Fin.ext (by dsimp only; omega)
    simp only [e1, e2, e3, e4]

/-- The lanes of a scale scratch after a step: the step's two are new. -/
theorem lane_eq (n : Fin 43) (h : Fin 2) (l : Fin 128) :
    (BitVec.ofNat 32 l.val = Scalar.addi (Scalar.muli (BitVec.ofNat 32 n.val) 2#32) (BitVec.ofNat 32 h.val)) ↔ l.val = 2 * n.val + h.val := by
  have := n.isLt; have := h.isLt; have := l.isLt
  have e : Scalar.addi (Scalar.muli (BitVec.ofNat 32 n.val) 2#32) (BitVec.ofNat 32 h.val) = BitVec.ofNat 32 (2 * n.val + h.val) := by
    apply BitVec.eq_of_toNat_eq
    simp [Scalar.addi, Scalar.muli, IntOp.addi, IntOp.muli]
    omega
  rw [e]
  constructor
  · intro q
    have := congrArg BitVec.toNat q
    simp only [BitVec.toNat_ofNat] at this
    omega
  · intro q; rw [q]

theorem stepXs_apply (hX : ∀ r g, Ok (vX X r g)) (hx : IsX X n x0) (i : grid0.Coords) (hi : (i 0).val = n.val) (a : Vec Ideal S160x128 .f32) (r : Fin 160) (g : Fin 86) :
    stepXs i x0 a (ix2 r ⟨g.val, by omega⟩) = if g.val / 2 = n.val then sX X r g else a (ix2 r ⟨g.val, by omega⟩) := by
  have l0 : (BitVec.ofNat 32 g.val = Scalar.addi (Scalar.muli (BitVec.ofNat 32 n.val) 2#32) 0#32) ↔ g.val = 2 * n.val + 0 := lane_eq n 0 ⟨g.val, by omega⟩
  have l1 : (BitVec.ofNat 32 g.val = Scalar.addi (Scalar.muli (BitVec.ofNat 32 n.val) 2#32) 1#32) ↔ g.val = 2 * n.val + 1 := lane_eq n 1 ⟨g.val, by omega⟩
  unfold stepXs laneOf
  rw [xsStore_apply _ _ _ _ _ (by rw [vx_xld hx]; exact hX _ _), xsStore_apply _ _ _ _ _ (by rw [vx_xld hx]; exact hX _ _), vx_xld hx, vx_xld hx, hi]
  unfold sX
  by_cases c1 : g.val = 2 * n.val + 1
  · rw [if_pos (l1.mpr c1), if_pos (by omega)]
    congr 2; exact Fin.ext c1.symm
  rw [if_neg (fun q => c1 (l1.mp q))]
  by_cases c0 : g.val = 2 * n.val + 0
  · rw [if_pos (l0.mpr c0), if_pos (by omega)]
    congr 2; exact Fin.ext c0.symm
  rw [if_neg (fun q => c0 (l0.mp q)), if_neg (by omega)]

theorem stepWs_apply (hW : ∀ g c, Ok (vW W g c)) (hw : IsW W n x1) (i : grid0.Coords) (hi : (i 0).val = n.val) (a : Vec Ideal S32x128 .f32) (c : Fin 32) (g : Fin 86) :
    stepWs i x1 a (ix2 c ⟨g.val, by omega⟩) = if g.val / 2 = n.val then sW W g c else a (ix2 c ⟨g.val, by omega⟩) := by
  have l0 : (BitVec.ofNat 32 g.val = Scalar.addi (Scalar.muli (BitVec.ofNat 32 n.val) 2#32) 0#32) ↔ g.val = 2 * n.val + 0 := lane_eq n 0 ⟨g.val, by omega⟩
  have l1 : (BitVec.ofNat 32 g.val = Scalar.addi (Scalar.muli (BitVec.ofNat 32 n.val) 2#32) 1#32) ↔ g.val = 2 * n.val + 1 := lane_eq n 1 ⟨g.val, by omega⟩
  unfold stepWs
  rw [wsStore_apply _ _ _ _ _ _ (by rw [wCol_apply, vw_wld hw]; exact hW _ _), wsStore_apply _ _ _ _ _ _ (by rw [wCol_apply, vw_wld hw]; exact hW _ _),
    wCol_apply, wCol_apply, vw_wld hw, vw_wld hw, hi]
  unfold sW
  by_cases c1 : g.val = 2 * n.val + 1
  · rw [if_pos (l1.mpr c1), if_pos (by omega)]
    congr 2; exact Fin.ext c1.symm
  rw [if_neg (fun q => c1 (l1.mp q))]
  by_cases c0 : g.val = 2 * n.val + 0
  · rw [if_pos (l0.mpr c0), if_pos (by omega)]
    congr 2; exact Fin.ext c0.symm
  rw [if_neg (fun q => c0 (l0.mp q)), if_neg (by omega)]

end Cert.KernelIdeal.Gen
end
-- ==== Proof.UniformA.lean ====
/- The stores of the first grid step are the uniform lists of Uniform. -/
module
public import proofs.«01_k».proof.Proof.Step
@[expose] public section
set_option maxRecDepth 16384
noncomputable section
namespace Cert.KernelIdeal.Gen
open Idealize.ShloMosaic Idealize.ShloMosaic.TcCoe Idealize.ShloMosaic.Tactic
open Idealize.SL Idealize.SL.Sem
variable {F : FTy → Type} [FloatOps F]

section
variable (c : Dev nD) (i : grid0.Coords)
  (arg1 : Memref sig Kind.tc Space.vmem S160x256 EltTy.bf16) (harg1 : arg1.IsWhole)
  (arg2 : Memref sig Kind.tc Space.vmem S256x4096 EltTy.bf16) (harg2 : arg2.IsWhole)
  (arg3 : Memref sig Kind.tc Space.vmem S160x4096 EltTy.bf16) (harg3 : arg3.IsWhole)
  (arg4 : Memref sig Kind.tc Space.vmem S160x256 EltTy.fp8e4m3) (harg4 : arg4.IsWhole)
  (arg5 : Memref sig Kind.tc Space.vmem S160x1x86 EltTy.f32) (harg5 : arg5.IsWhole)
  (arg6 : Memref sig Kind.tc Space.vmem S256x4096 EltTy.fp8e4m3) (harg6 : arg6.IsWhole)
  (arg7 : Memref sig Kind.tc Space.vmem S32x86 EltTy.f32) (harg7 : arg7.IsWhole)
  (arg8 : Memref sig Kind.tc Space.vmem S160x4096 EltTy.f32) (harg8 : arg8.IsWhole)
  (arg9 : Memref sig Kind.tc Space.vmem S160x128 EltTy.f32) (harg9 : arg9.IsWhole)
  (arg10 : Memref sig Kind.tc Space.vmem S32x128 EltTy.f32) (harg10 : arg10.IsWhole)
  (arg11 : Memref sig Kind.tc Space.vmem S2x32x128 EltTy.i32) (harg11 : arg11.IsWhole)
  (arg12 : Memref sig Kind.tc Space.vmem S2x32x128 EltTy.i32) (harg12 : arg12.IsWhole)
  (hc0 : cond0_0 i) (hc1 : ¬cond0_1 i) (x0 : Vec F S160x256 .bf16) (x1 : Vec F S256x4096 .bf16)

theorem scA : kernelRun0_A.sl.HS3_2 c arg2 harg2 x1 = scPieces (wRead arg2 harg2 x1) := rfl
theorem invA : kernelRun0_A.sl.HS4_2 c arg2 harg2 x1 = invPieces (wRead arg2 harg2 x1) := rfl
set_option maxHeartbeats 4000000 in
theorem xcLA : (kernelRun0_A c i arg1 harg1 arg2 harg2 arg3 harg3 arg4 harg4 arg5 harg5 arg6 harg6 arg7 harg7 arg8 harg8 arg9 harg9 arg10 harg10 arg11 harg11 arg12 harg12 hc0 hc1 x0 x1).2.1 = xcPieces (xRead arg1 harg1 x0) := by
  unfold kernelRun0_A; dsimp only; rfl
set_option maxHeartbeats 4000000 in
theorem wcLA : (kernelRun0_A c i arg1 harg1 arg2 harg2 arg3 harg3 arg4 harg4 arg5 harg5 arg6 harg6 arg7 harg7 arg8 harg8 arg9 harg9 arg10 harg10 arg11 harg11 arg12 harg12 hc0 hc1 x0 x1).2.2.2.1 = wcPieces (wRead arg2 harg2 x1) (wordRead arg12 (invPieces (wRead arg2 harg2 x1))) := by
  unfold kernelRun0_A; dsimp only; rfl
/-- What the first step's tiles read of the accumulator. -/
def readsA : Fin 16 → Vec F S160x256 .f32 :=
  ![kernelRun0_A.sl.v790 c arg8,
    kernelRun0_A.sl.v919 c arg1 harg1 arg2 harg2 arg8 arg11 arg12 x0 x1,
    kernelRun0_A.sl.v1048 c arg1 harg1 arg2 harg2 arg8 arg11 arg12 x0 x1,
    kernelRun0_A.sl.v1177 c arg1 harg1 arg2 harg2 arg8 arg11 arg12 x0 x1,
    kernelRun0_A.sl.v1306 c arg1 harg1 arg2 harg2 arg8 arg11 arg12 x0 x1,
    kernelRun0_A.sl.v1435 c arg1 harg1 arg2 harg2 arg8 arg11 arg12 x0 x1,
    kernelRun0_A.sl.v1564 c arg1 harg1 arg2 harg2 arg8 arg11 arg12 x0 x1,
    kernelRun0_A.sl.v1693 c arg1 harg1 arg2 harg2 arg8 arg11 arg12 x0 x1,
    kernelRun0_A.sl.v1822 c arg1 harg1 arg2 harg2 arg8 arg11 arg12 x0 x1,
    kernelRun0_A.sl.v1951 c arg1 harg1 arg2 harg2 arg8 arg11 arg12 x0 x1,
    kernelRun0_A.sl.v2080 c arg1 harg1 arg2 harg2 arg8 arg11 arg12 x0 x1,
    kernelRun0_A.sl.v2209 c arg1 harg1 arg2 harg2 arg8 arg11 arg12 x0 x1,
    kernelRun0_A.sl.v2338 c arg1 harg1 arg2 harg2 arg8 arg11 arg12 x0 x1,
    kernelRun0_A.sl.v2467 c arg1 harg1 arg2 harg2 arg8 arg11 arg12 x0 x1,
    kernelRun0_A.sl.v2596 c arg1 harg1 arg2 harg2 arg8 arg11 arg12 x0 x1,
    kernelRun0_A.sl.v2725 c arg1 harg1 arg2 harg2 arg8 arg11 arg12 x0 x1]
/-- The first step's stores to the accumulator: the tiles, over the zeros. -/
def accPiecesA : List (View.Piece (Elt F) S160x4096 .f32) :=
  accPieces (xqOf (xRead arg1 harg1 x0)) (qOf (wRead arg2 harg2 x1) (wordRead arg12 (invPieces (wRead arg2 harg2 x1))) (wordRead arg11 (scPieces (wRead arg2 harg2 x1)))) (readsA c arg1 harg1 arg2 harg2 arg8 arg11 arg12 x0 x1) ++
    [⟨Rect.unit (s := S160x4096) ![0, 0] S160x4096.size inb_S160x4096_S160x4096_0_0, k0_pay162⟩]
set_option maxHeartbeats 400000 in
theorem accLA : (kernelRun0_A c i arg1 harg1 arg2 harg2 arg3 harg3 arg4 harg4 arg5 harg5 arg6 harg6 arg7 harg7 arg8 harg8 arg9 harg9 arg10 harg10 arg11 harg11 arg12 harg12 hc0 hc1 x0 x1).2.2.2.2.2.1 = accPiecesA c arg1 harg1 arg2 harg2 arg8 arg11 arg12 x0 x1 := by
  unfold kernelRun0_A; dsimp only; rfl
set_option maxHeartbeats 1000000 in
theorem readsA_eq (t : Fin 16) : readsA c arg1 harg1 arg2 harg2 arg8 arg11 arg12 x0 x1 t =
    arg8.view.readCov ((accPiecesA c arg1 harg1 arg2 harg2 arg8 arg11 arg12 x0 x1).drop (16 - t.val)) (accRect t).toLoadRect := by
  fin_cases t <;> rfl
set_option maxHeartbeats 4000000 in
theorem xsLA : (kernelRun0_A c i arg1 harg1 arg2 harg2 arg3 harg3 arg4 harg4 arg5 harg5 arg6 harg6 arg7 harg7 arg8 harg8 arg9 harg9 arg10 harg10 arg11 harg11 arg12 harg12 hc0 hc1 x0 x1).2.2.2.2.2.2.1 = xsPieces i arg9 (xRead arg1 harg1 x0) (arg9.view.readCov [⟨xsWhole, k0_pay163⟩] xsWhole.toLoadRect) [⟨xsWhole, k0_pay163⟩] := by
  unfold kernelRun0_A; dsimp only; rfl
set_option maxHeartbeats 4000000 in
theorem wsLA : (kernelRun0_A c i arg1 harg1 arg2 harg2 arg3 harg3 arg4 harg4 arg5 harg5 arg6 harg6 arg7 harg7 arg8 harg8 arg9 harg9 arg10 harg10 arg11 harg11 arg12 harg12 hc0 hc1 x0 x1).2.2.2.2.2.2.2.1 = wsPieces i arg10 (wRead arg2 harg2 x1) (arg10.view.readCov [⟨wsWhole, k0_pay164⟩] wsWhole.toLoadRect) [⟨wsWhole, k0_pay164⟩] := by
  unfold kernelRun0_A; dsimp only; rfl

/-! What the step leaves. -/

theorem outXcA : out0_A_3 c i arg1 harg1 arg2 harg2 arg3 harg3 arg4 harg4 arg5 harg5 arg6 harg6 arg7 harg7 arg8 harg8 arg9 harg9 arg10 harg10 arg11 harg11 arg12 harg12 hc0 hc1 x0 x1 = stepXc x0 :=
  (View.read_writes_eq_canon _ _ _ (cover0_A_3 c i arg1 harg1 arg2 harg2 arg3 harg3 arg4 harg4 arg5 harg5 arg6 harg6 arg7 harg7 arg8 harg8 arg9 harg9 arg10 harg10 arg11 harg11 arg12 harg12 hc0 hc1 x0 x1)).trans (by
    rw [xcLA]; rw [xRead_eq]; rfl)
theorem outWcA : out0_A_5 c i arg1 harg1 arg2 harg2 arg3 harg3 arg4 harg4 arg5 harg5 arg6 harg6 arg7 harg7 arg8 harg8 arg9 harg9 arg10 harg10 arg11 harg11 arg12 harg12 hc0 hc1 x0 x1 = stepWc x1 :=
  (View.read_writes_eq_canon _ _ _ (cover0_A_5 c i arg1 harg1 arg2 harg2 arg3 harg3 arg4 harg4 arg5 harg5 arg6 harg6 arg7 harg7 arg8 harg8 arg9 harg9 arg10 harg10 arg11 harg11 arg12 harg12 hc0 hc1 x0 x1)).trans (by
    rw [wcLA]; rw [wRead_eq, wordRead_eq]; rfl)
theorem outAccA : sout0_A_0 c i arg1 harg1 arg2 harg2 arg3 harg3 arg4 harg4 arg5 harg5 arg6 harg6 arg7 harg7 arg8 harg8 arg9 harg9 arg10 harg10 arg11 harg11 arg12 harg12 hc0 hc1 x0 x1 = stepAcc x0 x1 k0_pay162 :=
  (View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 hc1 x0 x1)).trans (by
    rw [accLA]
    refine (canon_accFirst arg8 _ _ _ k0_pay162 (readsA_eq c arg1 harg1 arg2 harg2 arg8 arg11 arg12 x0 x1)).trans ?_
    rw [xRead_eq, wRead_eq, wordRead_eq, wordRead_eq]; rfl)
theorem outXsA : sout0_A_1 c i arg1 harg1 arg2 harg2 arg3 harg3 arg4 harg4 arg5 harg5 arg6 harg6 arg7 harg7 arg8 harg8 arg9 harg9 arg10 harg10 arg11 harg11 arg12 harg12 hc0 hc1 x0 x1 = stepXs i x0 k0_pay163 :=
  (View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 hc0 hc1 x0 x1)).trans (by
    rw [xsLA]; rw [xRead_eq, xsZero_eq, canon_xs])
theorem outWsA : sout0_A_2 c i arg1 harg1 arg2 harg2 arg3 harg3 arg4 harg4 arg5 harg5 arg6 harg6 arg7 harg7 arg8 harg8 arg9 harg9 arg10 harg10 arg11 harg11 arg12 harg12 hc0 hc1 x0 x1 = stepWs i x1 k0_pay164 :=
  (View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 hc0 hc1 x0 x1)).trans (by
    rw [wsLA]; rw [wRead_eq, wsZero_eq, canon_ws])
end

end Cert.KernelIdeal.Gen
end
-- ==== Proof.UniformB.lean ====
/- The stores of a middle grid step are the uniform lists of Uniform. -/
module
public import proofs.«01_k».proof.Proof.Step
@[expose] public section
set_option maxRecDepth 16384
noncomputable section
namespace Cert.KernelIdeal.Gen
open Idealize.ShloMosaic Idealize.ShloMosaic.TcCoe Idealize.ShloMosaic.Tactic
open Idealize.SL Idealize.SL.Sem
variable {F : FTy → Type} [FloatOps F]

section
variable (c : Dev nD) (i : grid0.Coords)
  (arg1 : Memref sig Kind.tc Space.vmem S160x256 EltTy.bf16) (harg1 : arg1.IsWhole)
  (arg2 : Memref sig Kind.tc Space.vmem S256x4096 EltTy.bf16) (harg2 : arg2.IsWhole)
  (arg3 : Memref sig Kind.tc Space.vmem S160x4096 EltTy.bf16) (harg3 : arg3.IsWhole)
  (arg4 : Memref sig Kind.tc Space.vmem S160x256 EltTy.fp8e4m3) (harg4 : arg4.IsWhole)
  (arg5 : Memref sig Kind.tc Space.vmem S160x1x86 EltTy.f32) (harg5 : arg5.IsWhole)
  (arg6 : Memref sig Kind.tc Space.vmem S256x4096 EltTy.fp8e4m3) (harg6 : arg6.IsWhole)
  (arg7 : Memref sig Kind.tc Space.vmem S32x86 EltTy.f32) (harg7 : arg7.IsWhole)
  (arg8 : Memref sig Kind.tc Space.vmem S160x4096 EltTy.f32) (harg8 : arg8.IsWhole)
  (arg9 : Memref sig Kind.tc Space.vmem S160x128 EltTy.f32) (harg9 : arg9.IsWhole)
  (arg10 : Memref sig Kind.tc Space.vmem S32x128 EltTy.f32) (harg10 : arg10.IsWhole)
  (arg11 : Memref sig Kind.tc Space.vmem S2x32x128 EltTy.i32) (harg11 : arg11.IsWhole)
  (arg12 : Memref sig Kind.tc Space.vmem S2x32x128 EltTy.i32) (harg12 : arg12.IsWhole)
  (hc0 : ¬cond0_0 i) (hc1 : ¬cond0_1 i) (x0 : Vec F S160x256 .bf16) (x1 : Vec F S256x4096 .bf16)
  (xs0 : Vec F S160x4096 .f32) (xs1 : Vec F S160x128 .f32) (xs2 : Vec F S32x128 .f32)

theorem scB : kernelRun0_B.sl.HS3_2 c arg2 harg2 x1 = scPieces (wRead arg2 harg2 x1) := rfl
theorem invB : kernelRun0_B.sl.HS4_2 c arg2 harg2 x1 = invPieces (wRead arg2 harg2 x1) := rfl
set_option maxHeartbeats 4000000 in
theorem xcLB : (kernelRun0_B c i arg1 harg1 arg2 harg2 arg3 harg3 arg4 harg4 arg5 harg5 arg6 harg6 arg7 harg7 arg8 harg8 arg9 harg9 arg10 harg10 arg11 harg11 arg12 harg12 hc0 hc1 x0 x1 xs0 xs1 xs2).2.1 = xcPieces (xRead arg1 harg1 x0) := by
  unfold kernelRun0_B; dsimp only; rfl
set_option maxHeartbeats 4000000 in
theorem wcLB : (kernelRun0_B c i arg1 harg1 arg2 harg2 arg3 harg3 arg4 harg4 arg5 harg5 arg6 harg6 arg7 harg7 arg8 harg8 arg9 harg9 arg10 harg10 arg11 harg11 arg12 harg12 hc0 hc1 x0 x1 xs0 xs1 xs2).2.2.2.1 = wcPieces (wRead arg2 harg2 x1) (wordRead arg12 (invPieces (wRead arg2 harg2 x1))) := by
  unfold kernelRun0_B; dsimp only; rfl
set_option maxHeartbeats 4000000 in
theorem accLB : (kernelRun0_B c i arg1 harg1 arg2 harg2 arg3 harg3 arg4 harg4 arg5 harg5 arg6 harg6 arg7 harg7 arg8 harg8 arg9 harg9 arg10 harg10 arg11 harg11 arg12 harg12 hc0 hc1 x0 x1 xs0 xs1 xs2).2.2.2.2.2.1 = accPieces (xqOf (xRead arg1 harg1 x0)) (qOf (wRead arg2 harg2 x1) (wordRead arg12 (invPieces (wRead arg2 harg2 x1))) (wordRead arg11 (scPieces (wRead arg2 harg2 x1)))) (accRead arg8 harg8 xs0) := by
  unfold kernelRun0_B; dsimp only; rfl
set_option maxHeartbeats 4000000 in
theorem xsLB : (kernelRun0_B c i arg1 harg1 arg2 harg2 arg3 harg3 arg4 harg4 arg5 harg5 arg6 harg6 arg7 harg7 arg8 harg8 arg9 harg9 arg10 harg10 arg11 harg11 arg12 harg12 hc0 hc1 x0 x1 xs0 xs1 xs2).2.2.2.2.2.2.1 = xsPieces i arg9 (xRead arg1 harg1 x0) (View.readAt (Elt F) arg9.view xsWhole.toLoadRect (harg9.unread xs1)) [] := by
  unfold kernelRun0_B; dsimp only; rfl
set_option maxHeartbeats 4000000 in
theorem wsLB : (kernelRun0_B c i arg1 harg1 arg2 harg2 arg3 harg3 arg4 harg4 arg5 harg5 arg6 harg6 arg7 harg7 arg8 harg8 arg9 harg9 arg10 harg10 arg11 harg11 arg12 harg12 hc0 hc1 x0 x1 xs0 xs1 xs2).2.2.2.2.2.2.2.1 = wsPieces i arg10 (wRead arg2 harg2 x1) (View.readAt (Elt F) arg10.view wsWhole.toLoadRect (harg10.unread xs2)) [] := by
  unfold kernelRun0_B; dsimp only; rfl

/-! What the step leaves. -/

theorem outXcB : out0_B_3 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 = stepXc x0 :=
  (View.read_writes_eq_canon _ _ _ (cover0_B_3 c i arg1 harg1 arg2 harg2 arg3 harg3 arg4 harg4 arg5 harg5 arg6 harg6 arg7 harg7 arg8 harg8 arg9 harg9 arg10 harg10 arg11 harg11 arg12 harg12 hc0 hc1 x0 x1 xs0 xs1 xs2)).trans (by
    rw [xcLB]; rw [xRead_eq]; rfl)
theorem outWcB : out0_B_5 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 = stepWc x1 :=
  (View.read_writes_eq_canon _ _ _ (cover0_B_5 c i arg1 harg1 arg2 harg2 arg3 harg3 arg4 harg4 arg5 harg5 arg6 harg6 arg7 harg7 arg8 harg8 arg9 harg9 arg10 harg10 arg11 harg11 arg12 harg12 hc0 hc1 x0 x1 xs0 xs1 xs2)).trans (by
    rw [wcLB]; rw [wRead_eq, wordRead_eq]; rfl)
theorem outAccB : sout0_B_0 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 = stepAcc x0 x1 xs0 :=
  (View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 hc0 hc1 x0 x1 xs0 xs1 xs2)).trans (by
    rw [accLB]; rw [xRead_eq, wRead_eq, wordRead_eq, wordRead_eq, accRead_eq]; rfl)
theorem outXsB : sout0_B_1 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 = stepXs i x0 xs1 :=
  (View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 hc0 hc1 x0 x1 xs0 xs1 xs2)).trans (by
    rw [xsLB]; rw [xRead_eq, xsRead_eq, canon_xs])
theorem outWsB : sout0_B_2 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 = stepWs i x1 xs2 :=
  (View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 hc0 hc1 x0 x1 xs0 xs1 xs2)).trans (by
    rw [wsLB]; rw [wRead_eq, wsRead_eq, canon_ws])
end

end Cert.KernelIdeal.Gen
end
-- ==== Proof.UniformC.lean ====
/- The stores of the last grid step are the uniform lists of Uniform. -/
module
public import proofs.«01_k».proof.Proof.Step
@[expose] public section
set_option maxRecDepth 16384
noncomputable section
namespace Cert.KernelIdeal.Gen
open Idealize.ShloMosaic Idealize.ShloMosaic.TcCoe Idealize.ShloMosaic.Tactic
open Idealize.SL Idealize.SL.Sem
variable {F : FTy → Type} [FloatOps F]

section
variable (c : Dev nD) (i : grid0.Coords)
  (arg1 : Memref sig Kind.tc Space.vmem S160x256 EltTy.bf16) (harg1 : arg1.IsWhole)
  (arg2 : Memref sig Kind.tc Space.vmem S256x4096 EltTy.bf16) (harg2 : arg2.IsWhole)
  (arg3 : Memref sig Kind.tc Space.vmem S160x4096 EltTy.bf16) (harg3 : arg3.IsWhole)
  (arg4 : Memref sig Kind.tc Space.vmem S160x256 EltTy.fp8e4m3) (harg4 : arg4.IsWhole)
  (arg5 : Memref sig Kind.tc Space.vmem S160x1x86 EltTy.f32) (harg5 : arg5.IsWhole)
  (arg6 : Memref sig Kind.tc Space.vmem S256x4096 EltTy.fp8e4m3) (harg6 : arg6.IsWhole)
  (arg7 : Memref sig Kind.tc Space.vmem S32x86 EltTy.f32) (harg7 : arg7.IsWhole)
  (arg8 : Memref sig Kind.tc Space.vmem S160x4096 EltTy.f32) (harg8 : arg8.IsWhole)
  (arg9 : Memref sig Kind.tc Space.vmem S160x128 EltTy.f32) (harg9 : arg9.IsWhole)
  (arg10 : Memref sig Kind.tc Space.vmem S32x128 EltTy.f32) (harg10 : arg10.IsWhole)
  (arg11 : Memref sig Kind.tc Space.vmem S2x32x128 EltTy.i32) (harg11 : arg11.IsWhole)
  (arg12 : Memref sig Kind.tc Space.vmem S2x32x128 EltTy.i32) (harg12 : arg12.IsWhole)
  (hc0 : ¬cond0_0 i) (hc1 : cond0_1 i) (x0 : Vec F S160x256 .bf16) (x1 : Vec F S256x4096 .bf16)
  (xs0 : Vec F S160x4096 .f32) (xs1 : Vec F S160x128 .f32) (xs2 : Vec F S32x128 .f32)

theorem scC : kernelRun0_C.sl.HS3_2 c arg2 harg2 x1 = scPieces (wRead arg2 harg2 x1) := rfl
theorem invC : kernelRun0_C.sl.HS4_2 c arg2 harg2 x1 = invPieces (wRead arg2 harg2 x1) := rfl
set_option maxHeartbeats 4000000 in
theorem xcLC : (kernelRun0_C c i arg1 harg1 arg2 harg2 arg3 harg3 arg4 harg4 arg5 harg5 arg6 harg6 arg7 harg7 arg8 harg8 arg9 harg9 arg10 harg10 arg11 harg11 arg12 harg12 hc0 hc1 x0 x1 xs0 xs1 xs2).2.1 = xcPieces (xRead arg1 harg1 x0) := by
  unfold kernelRun0_C; dsimp only; rfl
set_option maxHeartbeats 4000000 in
theorem wcLC : (kernelRun0_C c i arg1 harg1 arg2 harg2 arg3 harg3 arg4 harg4 arg5 harg5 arg6 harg6 arg7 harg7 arg8 harg8 arg9 harg9 arg10 harg10 arg11 harg11 arg12 harg12 hc0 hc1 x0 x1 xs0 xs1 xs2).2.2.2.1 = wcPieces (wRead arg2 harg2 x1) (wordRead arg12 (invPieces (wRead arg2 harg2 x1))) := by
  unfold kernelRun0_C; dsimp only; rfl
set_option maxHeartbeats 4000000 in
theorem accLC : (kernelRun0_C c i arg1 harg1 arg2 harg2 arg3 harg3 arg4 harg4 arg5 harg5 arg6 harg6 arg7 harg7 arg8 harg8 arg9 harg9 arg10 harg10 arg11 harg11 arg12 harg12 hc0 hc1 x0 x1 xs0 xs1 xs2).2.2.2.2.2.1 = accPieces (xqOf (xRead arg1 harg1 x0)) (qOf (wRead arg2 harg2 x1) (wordRead arg12 (invPieces (wRead arg2 harg2 x1))) (wordRead arg11 (scPieces (wRead arg2 harg2 x1)))) (accRead arg8 harg8 xs0) := by
  unfold kernelRun0_C; dsimp only; rfl
set_option maxHeartbeats 4000000 in
theorem xsLC : (kernelRun0_C c i arg1 harg1 arg2 harg2 arg3 harg3 arg4 harg4 arg5 harg5 arg6 harg6 arg7 harg7 arg8 harg8 arg9 harg9 arg10 harg10 arg11 harg11 arg12 harg12 hc0 hc1 x0 x1 xs0 xs1 xs2).2.2.2.2.2.2.1 = xsPieces i arg9 (xRead arg1 harg1 x0) (View.readAt (Elt F) arg9.view xsWhole.toLoadRect (harg9.unread xs1)) [] := by
  unfold kernelRun0_C; dsimp only; rfl
set_option maxHeartbeats 4000000 in
theorem wsLC : (kernelRun0_C c i arg1 harg1 arg2 harg2 arg3 harg3 arg4 harg4 arg5 harg5 arg6 harg6 arg7 harg7 arg8 harg8 arg9 harg9 arg10 harg10 arg11 harg11 arg12 harg12 hc0 hc1 x0 x1 xs0 xs1 xs2).2.2.2.2.2.2.2.1 = wsPieces i arg10 (wRead arg2 harg2 x1) (View.readAt (Elt F) arg10.view wsWhole.toLoadRect (harg10.unread xs2)) [] := by
  unfold kernelRun0_C; dsimp only; rfl
set_option maxHeartbeats 4000000 in
theorem yLC : (kernelRun0_C c i arg1 harg1 arg2 harg2 arg3 harg3 arg4 harg4 arg5 harg5 arg6 harg6 arg7 harg7 arg8 harg8 arg9 harg9 arg10 harg10 arg11 harg11 arg12 harg12 hc0 hc1 x0 x1 xs0 xs1 xs2).1 = [⟨Rect.unit (s := S160x4096) ![0, 0] S160x4096.size inb_S160x4096_S160x4096_0_0, truncf .bf16 (arg8.view.readCov (accPieces (xqOf (xRead arg1 harg1 x0)) (qOf (wRead arg2 harg2 x1) (wordRead arg12 (invPieces (wRead arg2 harg2 x1))) (wordRead arg11 (scPieces (wRead arg2 harg2 x1)))) (accRead arg8 harg8 xs0)) (Rect.unit (s := S160x4096) ![0, 0] S160x4096.size inb_S160x4096_S160x4096_0_0).toLoadRect) bitsLt_bf16_f32⟩] := by
  unfold kernelRun0_C; dsimp only; rfl
set_option maxHeartbeats 4000000 in
theorem xsOutLC : (kernelRun0_C c i arg1 harg1 arg2 harg2 arg3 harg3 arg4 harg4 arg5 harg5 arg6 harg6 arg7 harg7 arg8 harg8 arg9 harg9 arg10 harg10 arg11 harg11 arg12 harg12 hc0 hc1 x0 x1 xs0 xs1 xs2).2.2.1 = xsOutPieces arg9 (xsPieces i arg9 (xRead arg1 harg1 x0) (View.readAt (Elt F) arg9.view xsWhole.toLoadRect (harg9.unread xs1)) []) := by
  unfold kernelRun0_C; dsimp only; rfl
set_option maxHeartbeats 4000000 in
theorem wsOutLC : (kernelRun0_C c i arg1 harg1 arg2 harg2 arg3 harg3 arg4 harg4 arg5 harg5 arg6 harg6 arg7 harg7 arg8 harg8 arg9 harg9 arg10 harg10 arg11 harg11 arg12 harg12 hc0 hc1 x0 x1 xs0 xs1 xs2).2.2.2.2.1 = [⟨Rect.unit (s := S32x86) ![0, 0] S32x86.size inb_S32x86_S32x86_0_0, arg10.view.readCov (wsPieces i arg10 (wRead arg2 harg2 x1) (View.readAt (Elt F) arg10.view wsWhole.toLoadRect (harg10.unread xs2)) []) (Rect.unit (s := S32x128) ![0, 0] S32x86.size inb_S32x128_S32x86_0_0).toLoadRect⟩] := by
  unfold kernelRun0_C; dsimp only; rfl

/-! What the step leaves. -/

theorem outXcC : out0_C_3 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 = stepXc x0 :=
  (View.read_writes_eq_canon _ _ _ (cover0_C_3 c i arg1 harg1 arg2 harg2 arg3 harg3 arg4 harg4 arg5 harg5 arg6 harg6 arg7 harg7 arg8 harg8 arg9 harg9 arg10 harg10 arg11 harg11 arg12 harg12 hc0 hc1 x0 x1 xs0 xs1 xs2)).trans (by
    rw [xcLC]; rw [xRead_eq]; rfl)
theorem outWcC : out0_C_5 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 = stepWc x1 :=
  (View.read_writes_eq_canon _ _ _ (cover0_C_5 c i arg1 harg1 arg2 harg2 arg3 harg3 arg4 harg4 arg5 harg5 arg6 harg6 arg7 harg7 arg8 harg8 arg9 harg9 arg10 harg10 arg11 harg11 arg12 harg12 hc0 hc1 x0 x1 xs0 xs1 xs2)).trans (by
    rw [wcLC]; rw [wRead_eq, wordRead_eq]; rfl)
theorem outAccC : sout0_C_0 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 = stepAcc x0 x1 xs0 :=
  (View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 hc0 hc1 x0 x1 xs0 xs1 xs2)).trans (by
    rw [accLC]; rw [xRead_eq, wRead_eq, wordRead_eq, wordRead_eq, accRead_eq]; rfl)
theorem outXsC : sout0_C_1 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 = stepXs i x0 xs1 :=
  (View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 hc0 hc1 x0 x1 xs0 xs1 xs2)).trans (by
    rw [xsLC]; rw [xRead_eq, xsRead_eq, canon_xs])
theorem outWsC : sout0_C_2 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 = stepWs i x1 xs2 :=
  (View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 hc0 hc1 x0 x1 xs0 xs1 xs2)).trans (by
    rw [wsLC]; rw [wRead_eq, wsRead_eq, canon_ws])
theorem outYC : out0_C_2 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 = truncf .bf16 (stepAcc x0 x1 xs0) bitsLt_bf16_f32 :=
  (View.read_writes_eq_canon _ _ _ (cover0_C_2 c i arg1 harg1 arg2 harg2 arg3 harg3 arg4 harg4 arg5 harg5 arg6 harg6 arg7 harg7 arg8 harg8 arg9 harg9 arg10 harg10 arg11 harg11 arg12 harg12 hc0 hc1 x0 x1 xs0 xs1 xs2)).trans (by
    rw [yLC]; rw [View.canon_unit_zero (by decide), View.readCov_eq_canon', xRead_eq, wRead_eq, wordRead_eq, wordRead_eq, accRead_eq]
    show truncf .bf16 (View.ld (stepAcc x0 x1 xs0) (Rect.unit (s := S160x4096) ![0, 0] S160x4096.size inb_S160x4096_S160x4096_0_0)) bitsLt_bf16_f32 = _
    rw [ld_accWhole])
theorem outXsOutC : out0_C_4 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 = stepXsOut (stepXs i x0 xs1) :=
  (View.read_writes_eq_canon _ _ _ (cover0_C_4 c i arg1 harg1 arg2 harg2 arg3 harg3 arg4 harg4 arg5 harg5 arg6 harg6 arg7 harg7 arg8 harg8 arg9 harg9 arg10 harg10 arg11 harg11 arg12 harg12 hc0 hc1 x0 x1 xs0 xs1 xs2)).trans (by
    rw [xsOutLC]; rw [xRead_eq, xsRead_eq]; unfold xsOutPieces; simp only [View.readCov_eq_canon', canon_xs]; rfl)
theorem outWsOutC : out0_C_6 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 = stepWsOut (stepWs i x1 xs2) :=
  (View.read_writes_eq_canon _ _ _ (cover0_C_6 c i arg1 harg1 arg2 harg2 arg3 harg3 arg4 harg4 arg5 harg5 arg6 harg6 arg7 harg7 arg8 harg8 arg9 harg9 arg10 harg10 arg11 harg11 arg12 harg12 hc0 hc1 x0 x1 xs0 xs1 xs2)).trans (by
    rw [wsOutLC]; rw [View.canon_unit_zero (by decide), View.readCov_eq_canon', wRead_eq, wsRead_eq, canon_ws]; rfl)
end

end Cert.KernelIdeal.Gen
end
-- ==== Proof.Sweep.lean ====
/- The sweep over the 43 grid steps: what the buffers hold after each step, as the step functions folded over the steps' blocks. -/
module
public import proofs.«01_k».proof.Proof.UniformA
public import proofs.«01_k».proof.Proof.UniformB
public import proofs.«01_k».proof.Proof.UniformC
public import proofs.«01_k».proof.Proof.Gen.KernelIdeal.Value
@[expose] public section
set_option maxRecDepth 16384
noncomputable section
namespace Cert.KernelIdeal.Gen
open Idealize.ShloMosaic Idealize.ShloMosaic.TcCoe Idealize.ShloMosaic.Tactic
open Idealize.SL Idealize.SL.Sem
open Cert.KernelIdeal.Value
variable {F : FTy → Type} [FloatOps F]
variable (m : (ℓ : Loc nD τ sig) → Buf (Elt F) ℓ)

/-- Step `n`'s activation and weight blocks. -/
def xAt (c : Dev nD) (n : ℕ) (hn : n < cfg0.N) : Vec F S160x256 .bf16 := iblk m c 0 ⟨n, hn⟩
def wAt (c : Dev nD) (n : ℕ) (hn : n < cfg0.N) : Vec F S256x4096 .bf16 := iblk m c 1 ⟨n, hn⟩

/-- The three scratches after step `n`. -/
def accAt (c : Dev nD) : (n : ℕ) → n < cfg0.N → Vec F S160x4096 .f32
  | 0, h => stepAcc (xAt m c 0 h) (wAt m c 0 h) k0_pay162
  | n + 1, h => stepAcc (xAt m c (n + 1) h) (wAt m c (n + 1) h) (accAt c n (Nat.lt_of_succ_lt h))
def xsAt (c : Dev nD) : (n : ℕ) → n < cfg0.N → Vec F S160x128 .f32
  | 0, h => stepXs (grid0.coords ⟨0, h⟩) (xAt m c 0 h) k0_pay163
  | n + 1, h => stepXs (grid0.coords ⟨n + 1, h⟩) (xAt m c (n + 1) h) (xsAt c n (Nat.lt_of_succ_lt h))
def wsAt (c : Dev nD) : (n : ℕ) → n < cfg0.N → Vec F S32x128 .f32
  | 0, h => stepWs (grid0.coords ⟨0, h⟩) (wAt m c 0 h) k0_pay164
  | n + 1, h => stepWs (grid0.coords ⟨n + 1, h⟩) (wAt m c (n + 1) h) (wsAt c n (Nat.lt_of_succ_lt h))

/-- After every step: the codes are the step's codes, the scratches the folds. -/
theorem outs_spec (c : Dev nD) : ∀ (n : ℕ) (hn : n < cfg0.N),
    (outsAt0 m c n hn).2.1 = stepXc (xAt m c n hn) ∧ (outsAt0 m c n hn).2.2.2.1 = stepWc (wAt m c n hn) ∧
    (outsAt0 m c n hn).2.2.2.2.2.1 = accAt m c n hn ∧ (outsAt0 m c n hn).2.2.2.2.2.2.1 = xsAt m c n hn ∧
    (outsAt0 m c n hn).2.2.2.2.2.2.2 = wsAt m c n hn
  | 0, hn => by
    rw [outsAt0_A m c ⟨0, hn⟩ (Nat.zero_mod 43) (by show ¬ 0 % 43 = 42; omega)]
    dsimp only
    exact ⟨outXcA .., outWcA .., outAccA .., outXsA .., outWsA ..⟩
  | n + 1, hn => by
    have hN : n + 1 < 43 := lt_of_lt_of_eq hn N_0
    obtain ⟨-, -, e0, e1, e2⟩ := outs_spec c n (Nat.lt_of_succ_lt hn)
    have h0 : ¬ (⟨n + 1, hn⟩ : Fin cfg0.N).val % 43 = 0 := by show ¬ (n + 1) % 43 = 0; omega
    by_cases h1 : (⟨n + 1, hn⟩ : Fin cfg0.N).val % 43 = 42
    · rw [outsAt0_C m c ⟨n + 1, hn⟩ h0 h1]
      dsimp only [Nat.add_sub_cancel]
      exact ⟨outXcC .., outWcC .., (outAccC ..).trans (congrArg (stepAcc _ _) e0), (outXsC ..).trans (congrArg (stepXs _ _) e1), (outWsC ..).trans (congrArg (stepWs _ _) e2)⟩
    · rw [outsAt0_B m c ⟨n + 1, hn⟩ h0 h1]
      dsimp only [Nat.add_sub_cancel]
      exact ⟨outXcB .., outWcB .., (outAccB ..).trans (congrArg (stepAcc _ _) e0), (outXsB ..).trans (congrArg (stepXs _ _) e1), (outWsB ..).trans (congrArg (stepWs _ _) e2)⟩

theorem h42 : 42 < cfg0.N := lt_of_lt_of_eq (by decide) N_0.symm
/-- At the last step: the product narrowed, and the two scale results cut out of the scratches. -/
theorem outs_last (c : Dev nD) :
    (outsAt0 m c 42 h42).1 = truncf .bf16 (accAt m c 42 h42) bitsLt_bf16_f32 ∧
    (outsAt0 m c 42 h42).2.2.1 = stepXsOut (xsAt m c 42 h42) ∧
    (outsAt0 m c 42 h42).2.2.2.2.1 = stepWsOut (wsAt m c 42 h42) := by
  obtain ⟨-, -, e0, e1, e2⟩ := outs_spec m c 41 (Nat.lt_of_succ_lt h42)
  rw [outsAt0_C m c ⟨42, h42⟩ (by decide) (by decide)]
  dsimp only
  refine ⟨(outYC ..).trans ?_, (outXsOutC ..).trans ?_, (outWsOutC ..).trans ?_⟩
  · exact congrArg (fun a => truncf .bf16 (stepAcc _ _ a) bitsLt_bf16_f32) e0
  · exact congrArg (fun a => stepXsOut (stepXs _ _ a)) e1
  · exact congrArg (fun a => stepWsOut (stepWs _ _ a)) e2

/-- The five results. -/
theorem G2_eq (c : Dev nD) : G2 m c = truncf .bf16 (accAt m c 42 h42) bitsLt_bf16_f32 := by
  rw [G2_last, ← outsAt0_sweep]; exact (outs_last m c).1
theorem G4_eq (c : Dev nD) : G4 m c = stepXsOut (xsAt m c 42 h42) := by
  rw [G4_last, ← outsAt0_sweep]; exact (outs_last m c).2.1
theorem G6_eq (c : Dev nD) : G6 m c = stepWsOut (wsAt m c 42 h42) := by
  rw [G6_last, ← outsAt0_sweep]; exact (outs_last m c).2.2
theorem G3_apply (c : Dev nD) (i : S160x11008.Idx) (n : ℕ) (hn : n < cfg0.N) (e : pt3Of i = n) :
    G3 m c i = stepXc (xAt m c n hn) (loc3Of i) := by
  subst e
  unfold G3
  rw [dif_pos hn, ← outsAt0_sweep m c _ hn, (outs_spec m c _ hn).1]
theorem G5_apply (c : Dev nD) (i : S11008x4096.Idx) (n : ℕ) (hn : n < cfg0.N) (e : pt5Of i = n) :
    G5 m c i = stepWc (wAt m c n hn) (loc5Of i) := by
  subst e
  unfold G5
  rw [dif_pos hn, ← outsAt0_sweep m c _ hn, (outs_spec m c _ hn).2.1]

theorem coords_eq : ∀ t : Fin cfg0.N, (grid0.coords t 0).val = t.val :=
  (by decide +kernel : ∀ t : Fin grid0.N, (grid0.coords t 0).val = t.val)

/-! ### The blocks, read off the arguments -/

theorem V_main_v0 (c : Dev nD) : V m c main_v0 = shapeCast S160x11008 (m ((c : Thread nD τ).loc main_arg0)) shapeCasts_S160x1x11008_S160x11008 := by
  unfold V
  rw [StableHlo.after_cons, StableHlo.after_nil]
  exact StableHlo.reshape_result' ..

theorem xAt_apply (c : Dev nD) (n : ℕ) (hn : n < cfg0.N) (j : S160x256.Idx) (i : S160x11008.Idx) (h0 : (i 0).val = (j 0).val)
    (h1 : (i 1).val = 256 * n + (j 1).val) :
    xAt m c n hn j = shapeCast S160x11008 (m ((c : Thread nD τ).loc main_arg0)) shapeCasts_S160x1x11008_S160x11008 i := by
  have hi : ∀ t : Fin cfg0.N, win0_0.index t 0 = 0 ∧ win0_0.index t 1 = t.val :=
    (by decide +kernel : ∀ t : Fin grid0.N, win0_0.index t 0 = 0 ∧ win0_0.index t 1 = t.val)
  rw [← V_main_v0 m c]
  unfold xAt iblk
  rw [View.read_apply]
  show V m c main_v0 _ = V m c main_v0 _
  congr 1
  funext a
  apply Fin.ext
  match a with
  | ⟨0, _⟩ => show win0_0.index ⟨n, hn⟩ 0 * 160 + 1 * (j 0).val = (i 0).val; rw [(hi _).1]; omega
  | ⟨1, _⟩ => show win0_0.index ⟨n, hn⟩ 1 * 256 + 1 * (j 1).val = (i 1).val; rw [(hi _).2]; show n * 256 + _ = _; omega

theorem wAt_apply (c : Dev nD) (n : ℕ) (hn : n < cfg0.N) (j : S256x4096.Idx) (i : S11008x4096.Idx) (h0 : (i 0).val = 256 * n + (j 0).val)
    (h1 : (i 1).val = (j 1).val) :
    wAt m c n hn j = m ((c : Thread nD τ).loc main_arg1) i := by
  have hi : ∀ t : Fin cfg0.N, win0_1.index t 0 = t.val ∧ win0_1.index t 1 = 0 :=
    (by decide +kernel : ∀ t : Fin grid0.N, win0_1.index t 0 = t.val ∧ win0_1.index t 1 = 0)
  rw [← V_main_arg1 m c]
  unfold wAt iblk
  rw [View.read_apply]
  show V m c main_arg1 _ = V m c main_arg1 _
  congr 1
  funext a
  apply Fin.ext
  match a with
  | ⟨0, _⟩ => show win0_1.index ⟨n, hn⟩ 0 * 256 + 1 * (j 0).val = (i 0).val; rw [(hi _).1]; show n * 256 + _ = _; omega
  | ⟨1, _⟩ => show win0_1.index ⟨n, hn⟩ 1 * 4096 + 1 * (j 1).val = (i 1).val; rw [(hi _).2]; omega

end Cert.KernelIdeal.Gen
end
-- ==== Proof.KClosed.lean ====
/- The kernel's five results as functions of its two arguments. -/
module
public import proofs.«01_k».proof.Proof.Closed
public import proofs.«01_k».proof.Proof.Sweep
@[expose] public section
set_option maxRecDepth 16384
noncomputable section
namespace Cert.KernelIdeal.Value
open Idealize.ShloMosaic Idealize.ShloMosaic.TcCoe Idealize.ShloMosaic.Tactic
open Idealize.SL Idealize.SL.Sem
open Cert.KernelIdeal.Gen
open Cert.Scale Cert.Quant

/-- The arguments as tables. -/
def tX (a0 : Vec Ideal S160x1x11008 .bf16) (r : Fin 160) (i : Fin 11008) : EReal := a0 (ix3 r 0 i)
def tW (a1 : Vec Ideal S11008x4096 .bf16) (i : Fin 11008) (j : Fin 4096) : EReal := a1 (ix2 i j)

theorem flat_apply (a0 : Vec Ideal S160x1x11008 .bf16) (r : Fin 160) (i : Fin 11008) :
    shapeCast S160x11008 a0 shapeCasts_S160x1x11008_S160x11008 (ix2 r i) = tX a0 r i := by
  pointwise
  rfl

variable (m : (ℓ : Loc nD τ sig) → Buf (Elt Ideal) ℓ) (c : Dev nD)

abbrev kX : Fin 160 → Fin 11008 → EReal := tX (m ((c : Thread nD τ).loc main_arg0))
abbrev kW : Fin 11008 → Fin 4096 → EReal := tW (m ((c : Thread nD τ).loc main_arg1))

theorem isX (n : ℕ) (hn : n < cfg0.N) (h : n < 43) : IsX (kX m c) ⟨n, h⟩ (xAt m c n hn) := fun r k =>
  (xAt_apply m c n hn (ix2 r k) (ix2 r ⟨256 * n + k.val, by omega⟩) rfl rfl).trans (flat_apply _ _ _)
theorem isW (n : ℕ) (hn : n < cfg0.N) (h : n < 43) : IsW (kW m c) ⟨n, h⟩ (wAt m c n hn) := fun k j =>
  wAt_apply m c n hn (ix2 k j) (ix2 ⟨256 * n + k.val, by omega⟩ j) rfl rfl

variable {m c} (hX : ∀ r g, Ok (vX (kX m c) r g)) (hW : ∀ g b, Ok (vW (kW m c) g b))
include hX hW

theorem accAt_apply (r : Fin 160) (j : Fin 4096) : ∀ (n : ℕ) (hn : n < cfg0.N),
    accAt m c n hn (ix2 r j) = ∑ i ∈ Finset.range (256 * (n + 1)), termN (kX m c) (kW m c) r j i
  | 0, hn => by
    have h43 : 0 < 43 := by omega
    rw [accAt, stepAcc_apply hX hW (isX m c 0 hn h43) (isW m c 0 hn h43)]
    rw [show (k0_pay162 (F := Ideal)) (ix2 r j) = 0 from by pointwise [k0_pay162], zero_add]
    exact Finset.sum_congr rfl fun i _ => by rw [Nat.mul_zero, Nat.zero_add]
  | n + 1, hn => by
    have h43 : n + 1 < 43 := lt_of_lt_of_eq hn N_0
    rw [accAt, stepAcc_apply hX hW (isX m c (n + 1) hn h43) (isW m c (n + 1) hn h43), accAt_apply r j n]
    rw [show 256 * (n + 1 + 1) = 256 * (n + 1) + 256 from by omega, Finset.sum_range_add]

omit hW in
theorem xsAt_apply (r : Fin 160) (g : Fin 86) : ∀ (n : ℕ) (hn : n < cfg0.N), g.val / 2 ≤ n →
    xsAt m c n hn (ix2 r ⟨g.val, by omega⟩) = sX (kX m c) r g
  | 0, hn, hg => by
    have h43 : 0 < 43 := by omega
    rw [xsAt, stepXs_apply hX (isX m c 0 hn h43) _ (coords_eq ⟨0, hn⟩), if_pos (by dsimp only; omega)]
  | n + 1, hn, hg => by
    have h43 : n + 1 < 43 := lt_of_lt_of_eq hn N_0
    rw [xsAt, stepXs_apply hX (isX m c (n + 1) hn h43) _ (coords_eq ⟨n + 1, hn⟩)]
    split
    · rfl
    · exact xsAt_apply r g n _ (by dsimp only at *; omega)

omit hX in
theorem wsAt_apply (b : Fin 32) (g : Fin 86) : ∀ (n : ℕ) (hn : n < cfg0.N), g.val / 2 ≤ n →
    wsAt m c n hn (ix2 b ⟨g.val, by omega⟩) = sW (kW m c) g b
  | 0, hn, hg => by
    have h43 : 0 < 43 := by omega
    rw [wsAt, stepWs_apply hW (isW m c 0 hn h43) _ (coords_eq ⟨0, hn⟩), if_pos (by dsimp only; omega)]
  | n + 1, hn, hg => by
    have h43 : n + 1 < 43 := lt_of_lt_of_eq hn N_0
    rw [wsAt, stepWs_apply hW (isW m c (n + 1) hn h43) _ (coords_eq ⟨n + 1, hn⟩)]
    split
    · rfl
    · exact wsAt_apply b g n _ (by dsimp only at *; omega)

theorem G2_apply (r : Fin 160) (j : Fin 4096) : G2 m c (ix2 r j) = ∑ i : Fin 11008, term (kX m c) (kW m c) r j i := by
  rw [← termN_sum, G2_eq]
  pointwise
  exact accAt_apply hX hW r j 42 h42

omit hW in
theorem G3_at (r : Fin 160) (i : Fin 11008) : G3 m c (ix2 r i) = cX (kX m c) r i := by
  have hi := i.isLt
  have hr := r.isLt
  have hn : i.val / 256 < cfg0.N := lt_of_lt_of_eq (by omega) N_0.symm
  have h43 : i.val / 256 < 43 := by omega
  rw [G3_apply m c _ (i.val / 256) hn (by show 43 * (r.val / 160 - 0) + 1 * (i.val / 256 - 0) = _; omega), stepXc_apply hX (isX m c _ hn h43)]
  congr 1
  · apply Fin.ext; show r.val % 160 = r.val; omega
  · apply Fin.ext; show 256 * (i.val / 256) + i.val % 256 = i.val; omega

omit hX in
theorem G5_at (i : Fin 11008) (j : Fin 4096) : G5 m c (ix2 i j) = cW (kW m c) i j := by
  have hi := i.isLt
  have hj := j.isLt
  have hn : i.val / 256 < cfg0.N := lt_of_lt_of_eq (by omega) N_0.symm
  have h43 : i.val / 256 < 43 := by omega
  rw [G5_apply m c _ (i.val / 256) hn (by show 1 * (i.val / 256 - 0) + 1 * (j.val / 4096 - 0) = _; omega), stepWc_apply hW (isW m c _ hn h43)]
  congr 1
  · apply Fin.ext; show 256 * (i.val / 256) + i.val % 256 = i.val; omega
  · apply Fin.ext; show j.val % 4096 = j.val; omega

omit hX in
theorem G6_apply (b : Fin 32) (g : Fin 86) : G6 m c (ix2 b g) = sW (kW m c) g b := by
  rw [G6_eq, ← wsAt_apply hW b g 42 h42 (by omega)]
  generalize wsAt m c 42 h42 = a
  unfold stepWsOut
  show a _ = _
  exact at2 (z := (0 : EReal)) a (by show 0 + 1 * b.val = b.val; omega) (by show 0 + 1 * g.val = g.val; omega)

omit hW in
theorem G4_apply (r : Fin 160) (g : Fin 86) : G4 m c (ix3 r 0 g) = sX (kX m c) r g := by
  rw [G4_eq, ← xsAt_apply hX r g 42 h42 (by omega)]
  generalize xsAt m c 42 h42 = a
  unfold stepXsOut
  have hr := r.isLt
  have hg := g.isLt
  refine View.canon_ofFn_unit_eq_of_forall (S := S160x1x86) (Val := Elt Ideal) (e := .f32) (N := 160) (fun k => ![(rOf k).val, 0, 0]) S1x1x86.size
    (fun k => rowOutInb (rOf k)) (fun k => shapeCast S1x1x86 (View.ld a (Rect.unit (s := S160x128) ![(rOf k).val, 0] S1x86.size (rowInb (rOf k)))) shapeCasts_S1x86_S1x1x86)
    (ix3 r 0 g) _ ⟨⟨159 - r.val, by omega⟩, fun d => ?_⟩ fun k x hx => ?_
  · have e : (rOf ⟨159 - r.val, by omega⟩).val = r.val := by show 159 - (159 - r.val) = r.val; omega
    simp only [e]
    fin_cases d
    · show r.val ≤ r.val ∧ r.val < r.val + 1; omega
    · show 0 ≤ 0 ∧ 0 < 0 + 1; omega
    · show 0 ≤ g.val ∧ g.val < 0 + 86; omega
  · have g0 : r.val = (rOf k).val + (x 0).val := hx 0
    have g2 : g.val = 0 + (x 2).val := hx 2
    have b0 : (x 0).val < 1 := (x 0).isLt
    have b1 : (x 1).val < 1 := (x 1).isLt
    generalize rOf k = k' at *
    have ex : x = ix3 0 0 g := by
      funext d; apply Fin.ext
      fin_cases d
      · show (x 0).val = 0; omega
      · show (x 1).val = 0; omega
      · show (x 2).val = g.val; omega
    have ek : k' = r := Fin.ext (by omega)
    subst ek
    show shapeCast S1x1x86 (View.ld a (Rect.unit (s := S160x128) ![k'.val, 0] S1x86.size (rowInb k'))) shapeCasts_S1x86_S1x1x86 x = _
    rw [ex]
    pointwise

end Cert.KernelIdeal.Value
end
-- ==== Proof.RefRead.lean ====
/- The reference's five results as functions of its two arguments. -/
module
public import proofs.«01_k».proof.Proof.Closed
public import proofs.«01_k».proof.Proof.Gen.ReferenceIdeal.Value
@[expose] public section
set_option maxRecDepth 16384
noncomputable section
namespace Cert.ReferenceIdeal.Gen
open Idealize.ShloMosaic Idealize.ShloMosaic.TcCoe Idealize.ShloMosaic.Tactic
open Cert.Scale Cert.Quant

/-- The arguments as tables. -/
def tX (a0 : Vec Ideal S160x1x11008 .bf16) (r : Fin 160) (i : Fin 11008) : EReal := a0 (ix3 r 0 i)
def tW (a1 : Vec Ideal S11008x4096 .bf16) (i : Fin 11008) (j : Fin 4096) : EReal := a1 (ix2 i j)

/-- The exponent argument of lane `p`. -/
theorem pow_lane (p : Fin 253) : FloatOps.exp2 (F := Ideal) (FloatOps.sitofp .f32 (IntOp.subi (BitVec.ofNat 32 p.val) 125#32) : Ideal .f32) = (((2 : ℝ) ^ ((p.val : ℤ) - 125) : ℝ) : EReal) := by
  have hp := p.isLt
  have e : (IntOp.subi (BitVec.ofNat 32 p.val) 125#32).toInt = (p.val : ℤ) - 125 := by
    simp only [IntOp.subi]
    rw [BitVec.toInt_sub]
    have h1 : (BitVec.ofNat 32 p.val).toInt = p.val := by
      rw [BitVec.toInt_eq_toNat_cond]; simp; omega
    rw [h1, show (125#32 : BitVec 32).toInt = 125 from by decide]
    rw [Int.bmod_def]; omega
  show Ideal.exp2 (((IntOp.subi (BitVec.ofNat 32 p.val) 125#32).toInt : ℝ) : EReal) = _
  rw [e, Ideal.exp2_coe]
  exact congrArg _ (Real.rpow_intCast 2 _)

theorem pos_inf : Ideal.ofBits .f32 2139095040#32 = ⊤ := by simp [Ideal.ofBits, Ideal.ieee]
theorem min_normal : Ideal.ofBits .f32 8388608#32 = (((2 : ℝ) ^ (-126 : ℤ) : ℝ) : EReal) := by
  have := word_pat ⟨1, by omega⟩ (by decide) (by decide)
  rw [show pat ⟨1, by omega⟩ = 8388608#32 from by decide] at this
  exact this.trans (by norm_num)
theorem select_or {p q : Prop} [Decidable p] [Decidable q] (x y : EReal) :
    Scalar.select (IntOp.ori (BitVec.ofBool (decide p)) (BitVec.ofBool (decide q))) x y = if p ∨ q then x else y := by
  by_cases h1 : p <;> by_cases h2 : q <;> simp [Scalar.select, IntOp.ori, h1, h2]

variable {a b : ℕ}

/-- The reference's scale of a table of scaled peaks, as the program prints it. -/
def scaleOf (hi : (⟨3, ![a, b, 253]⟩ : Shape).Iotas .tc 32 [2]) (hs : (⟨2, ![a, b]⟩ : Shape).ShapeCasts ⟨3, ![a, b, 1]⟩)
    (hb : (⟨3, ![a, b, 1]⟩ : Shape).Broadcasts ⟨3, ![a, b, 253]⟩) (hr : (⟨3, ![a, b, 253]⟩ : Shape).Reduces [2] ⟨2, ![a, b]⟩)
    (v : FVec Ideal ⟨2, ![a, b]⟩ .f32) : FVec Ideal ⟨2, ![a, b]⟩ .f32 :=
  select
      (ori (cmpf CmpFPredicate.olt v (broadcast ⟨2, ![a, b]⟩ (FloatOps.ofBits FTy.f32 8388608#32)))
        (cmpf CmpFPredicate.oeq v (broadcast ⟨2, ![a, b]⟩ (FloatOps.ofBits FTy.f32 2139095040#32))))
      (broadcast ⟨2, ![a, b]⟩ (FloatOps.ofBits FTy.f32 1065353216#32))
      (multiReduction FKind.minimumf [2] ⟨2, ![a, b]⟩
        (select
          (cmpf CmpFPredicate.ogt
            (exp2 (sitofp FTy.f32 (subi (iota Kind.tc ⟨3, ![a, b, 253]⟩ 32 [2] hi) (broadcast ⟨3, ![a, b, 253]⟩ 125#32))))
            (broadcastTo ⟨3, ![a, b, 253]⟩ (shapeCast ⟨3, ![a, b, 1]⟩ v hs) hb))
          (exp2 (sitofp FTy.f32 (subi (iota Kind.tc ⟨3, ![a, b, 253]⟩ 32 [2] hi) (broadcast ⟨3, ![a, b, 253]⟩ 125#32))))
          (broadcast ⟨3, ![a, b, 253]⟩ (FloatOps.ofBits FTy.f32 2139095040#32)))
        (2139095040#32) hr (.inl rfl) rfl)

theorem tail_apply (v u : FVec Ideal ⟨2, ![a, b]⟩ .f32) (g : Fin a) (c : Fin b) : select
      (ori (cmpf CmpFPredicate.olt v (broadcast ⟨2, ![a, b]⟩ (FloatOps.ofBits FTy.f32 8388608#32)))
        (cmpf CmpFPredicate.oeq v (broadcast ⟨2, ![a, b]⟩ (FloatOps.ofBits FTy.f32 2139095040#32))))
      (broadcast ⟨2, ![a, b]⟩ (FloatOps.ofBits FTy.f32 1065353216#32)) u (ix2 g c) =
    if v (ix2 g c) < (((2 : ℝ) ^ (-126 : ℤ) : ℝ) : EReal) ∨ v (ix2 g c) = ⊤ then (1 : EReal) else u (ix2 g c) := by
  pointwise
  rw [min_normal, pos_inf]
  exact select_or _ _

theorem min_apply (hr : (⟨3, ![a, b, 253]⟩ : Shape).Reduces [2] ⟨2, ![a, b]⟩) (v : FVec Ideal ⟨3, ![a, b, 253]⟩ .f32) (g : Fin a) (c : Fin b) :
    (multiReduction .minimumf [2] ⟨2, ![a, b]⟩ v 0x7F800000#32 hr (.inl rfl) rfl) (ix2 g c) = (Finset.univ : Finset (Fin 253)).inf fun p => (v (ix3 g c p) : EReal) := by
  pointwise
  rw [pos_inf]
  rfl

theorem above_apply (w u : FVec Ideal ⟨3, ![a, b, 253]⟩ .f32) (g : Fin a) (c : Fin b) (p : Fin 253) :
    select (cmpf CmpFPredicate.ogt u w) u
      (broadcast ⟨3, ![a, b, 253]⟩ (FloatOps.ofBits FTy.f32 2139095040#32)) (ix3 g c p) = if w (ix3 g c p) < u (ix3 g c p) then u (ix3 g c p) else (⊤ : EReal) := by
  pointwise
  rw [pos_inf]

theorem red4 (v : FVec Ideal S86x128x32x128 .f32) (g : Fin 86) (c : Fin 32) :
    multiReduction .maximumf [1, 3] S86x32 (absf v) 0xFF800000#32 reduces_S86x128x32x128_S86x32 (.inl rfl) rfl (ix2 g c) = peak2 fun r l => v (ix4 g r c l) := by
  pointwise
  rw [Finset.fold_filter_eq_fold_of_fiber max _ (fun k : Fin 128 × Fin 128 => ix4 g k.1 c k.2) (fun _ _ e => Prod.ext (congrFun e 1) (congrFun e 3))
    (fun i => ?_)]
  · refine eq_of_forall_ge_iff fun x => ?_
    rw [peak2_le, Finset.fold_max_le, neg_inf_f32]
    simp
    exact forall_congr' fun r => forall_congr' fun l => (max_le_iff (a := v (ix4 g r c l)) (b := -v (ix4 g r c l)))
  · constructor
    · intro h
      refine ⟨(i 1, i 3), ?_⟩
      funext d
      match d with
      | ⟨0, _⟩ => exact Fin.ext ((Shape.Reduces.drop_apply_val_of_eq reduces_S86x128x32x128_S86x32 i 0 0).symm.trans (congrArg Fin.val (congrFun h 0))).symm
      | ⟨1, _⟩ => rfl
      | ⟨2, _⟩ => exact Fin.ext ((Shape.Reduces.drop_apply_val_of_eq reduces_S86x128x32x128_S86x32 i 1 2).symm.trans (congrArg Fin.val (congrFun h 1))).symm
      | ⟨3, _⟩ => rfl
    · rintro ⟨k, rfl⟩
      funext d
      apply Fin.ext
      match d with
      | ⟨0, _⟩ => exact Shape.Reduces.drop_apply_val_of_eq reduces_S86x128x32x128_S86x32 _ 0 0
      | ⟨1, _⟩ => exact Shape.Reduces.drop_apply_val_of_eq reduces_S86x128x32x128_S86x32 _ 1 2

theorem red3 (v : FVec Ideal S160x86x128 .f32) (r : Fin 160) (g : Fin 86) :
    multiReduction .maximumf [2] S160x86 (absf v) 0xFF800000#32 reduces_S160x86x128_S160x86 (.inl rfl) rfl (ix2 r g) = peak fun l => v (ix3 r g l) := by
  pointwise
  rw [neg_inf_f32]
  rfl

theorem scaleOf_apply (hi hs hb hr) (v : FVec Ideal ⟨2, ![a, b]⟩ .f32) (g : Fin a) (c : Fin b)
    (hv : ∀ p : Fin 253, broadcastTo ⟨3, ![a, b, 253]⟩ (shapeCast ⟨3, ![a, b, 1]⟩ v hs) hb (ix3 g c p) = v (ix2 g c)) : scaleOf hi hs hb hr v (ix2 g c) = refScale (v (ix2 g c)) := by
  unfold scaleOf
  refine (tail_apply v _ g c).trans ?_
  unfold refScale
  congr 1
  refine (min_apply hr _ g c).trans ?_
  congr 1
  funext p
  refine (above_apply _ _ g c p).trans ?_
  rw [← pow_lane p, hv p]
  pointwise

theorem mul448 {S : Shape} (u : FVec Ideal S .f32) (j : S.Idx) (P : EReal) (h : u j = P) :
    mulf u (broadcast S (Scalar.ofBits .f32 0x3B124925#32)) j = P * inv448 := by
  subst h; rfl

theorem pay4_apply (a0 : Vec Ideal S160x1x11008 .bf16) (r : Fin 160) (g : Fin 86) (l : Fin 128) : k0_pay4 a0 (ix3 r g l) = tX a0 r ⟨128 * g.val + l.val, by omega⟩ := by
  pointwise [k0_pay4]
  exact congrArg (tX a0 r) (Fin.ext (by dsimp only; omega))
theorem pay7_apply (a1 : Vec Ideal S11008x4096 .bf16) (g : Fin 86) (r : Fin 128) (c : Fin 32) (l : Fin 128) :
    k0_pay7 a1 (ix4 g r c l) = tW a1 ⟨128 * g.val + r.val, by omega⟩ ⟨128 * c.val + l.val, by omega⟩ := by
  pointwise [k0_pay7]
  exact congrArg₂ (tW a1) (Fin.ext (by dsimp only; omega)) (Fin.ext (by dsimp only; omega))

theorem lanes_x (v : FVec Ideal S160x86 .f32) (r : Fin 160) (g : Fin 86) (p : Fin 253) :
    broadcastTo S160x86x253 (shapeCast S160x86x1 v shapeCasts_S160x86_S160x86x1) broadcasts_S160x86x1_S160x86x253 (ix3 r g p) = v (ix2 r g) := by
  pointwise

theorem ld_x (a0 : Vec Ideal S160x1x11008 .bf16) : View.ld a0 r0_0 = a0 := View.ld_unit_zero (by decide) _ _
theorem ld_w (a1 : Vec Ideal S11008x4096 .bf16) : View.ld a1 r0_1 = a1 := View.ld_unit_zero (by decide) _ _
theorem pay13_eq (a0 : Vec Ideal S160x1x11008 .bf16) (a1 : Vec Ideal S11008x4096 .bf16) : k0_pay13 a0 a1 = k0_pay5 a0 := by unfold k0_pay13; rw [ld_x]
theorem pay14_eq (a0 : Vec Ideal S160x1x11008 .bf16) (a1 : Vec Ideal S11008x4096 .bf16) : k0_pay14 a0 a1 = k0_pay6 a0 := by unfold k0_pay14; rw [ld_x]
theorem pay15_eq (a0 : Vec Ideal S160x1x11008 .bf16) (a1 : Vec Ideal S11008x4096 .bf16) : k0_pay15 a0 a1 = k0_pay7 a1 := by unfold k0_pay15; rw [ld_w]
theorem pay16_eq (a0 : Vec Ideal S160x1x11008 .bf16) (a1 : Vec Ideal S11008x4096 .bf16) : k0_pay16 a0 a1 = k0_pay8 a1 := by unfold k0_pay16; rw [ld_w]

theorem wide_x (v : FVec Ideal S160x86 .f32) (r : Fin 160) (g : Fin 86) (l : Fin 128) :
    broadcastTo S160x86x128 (shapeCast S160x86x1 v shapeCasts_S160x86_S160x86x1) broadcasts_S160x86x1_S160x86x128 (ix3 r g l) = v (ix2 r g) := by
  pointwise
theorem wide_w (v : FVec Ideal S86x32 .f32) (g : Fin 86) (r : Fin 128) (c : Fin 32) (l : Fin 128) :
    broadcastTo S86x128x32x128 (shapeCast S86x1x32x1 v shapeCasts_S86x32_S86x1x32x1) broadcasts_S86x1x32x1_S86x128x32x128 (ix4 g r c l) = v (ix2 g c) := by
  pointwise
/-- One over a table, at an entry. -/
theorem recip_apply {S : Shape} (s : FVec Ideal S .f32) (j : S.Idx) :
    divf (broadcast S (Scalar.ofBits .f32 0x3F800000#32)) s j = Ideal.div 1 (s j) := by
  show Ideal.div (Ideal.ofBits .f32 0x3F800000#32) (s j) = _
  rw [Ideal.ofBits_one_f32]
/-- The clipped product, at an entry. -/
theorem clip_apply {S : Shape} (x w : FVec Ideal S .f32) (j : S.Idx) (s : EReal) (h : w j = Ideal.div 1 s) :
    truncf .fp8e4m3 (minimumf (broadcast S (Scalar.ofBits .f32 0x43E00000#32)) (maximumf (broadcast S (Scalar.ofBits .f32 0xC3E00000#32)) (mulf x w))) bitsLt_fp8e4m3_f32 j = code (x j) s := by
  unfold code
  rw [← h]
  rfl

theorem pay5_apply (a0 : Vec Ideal S160x1x11008 .bf16) (r : Fin 160) (g : Fin 86) : k0_pay5 a0 (ix2 r g) = sX (tX a0) r g := by
  have e : k0_pay5 a0 = scaleOf iota_S160x86x253_d2_w32 shapeCasts_S160x86_S160x86x1 broadcasts_S160x86x1_S160x86x253 reduces_S160x86x253_S160x86
    (mulf (multiReduction .maximumf [2] S160x86 (absf (k0_pay4 a0)) 0xFF800000#32 reduces_S160x86x128_S160x86 (.inl rfl) rfl) (broadcast S160x86 (Scalar.ofBits .f32 0x3B124925#32))) := rfl
  rw [e, scaleOf_apply _ _ _ _ _ _ _ (lanes_x _ r g)]
  rw [mul448 _ _ _ (red3 _ r g)]
  simp only [pay4_apply]
  rfl
theorem pay8_apply (a1 : Vec Ideal S11008x4096 .bf16) (g : Fin 86) (c : Fin 32) : k0_pay8 a1 (ix2 g c) = vW (tW a1) g c := by
  have e : k0_pay8 a1 = mulf (multiReduction .maximumf [1, 3] S86x32 (absf (k0_pay7 a1)) 0xFF800000#32 reduces_S86x128x32x128_S86x32 (.inl rfl) rfl)
    (broadcast S86x32 (Scalar.ofBits .f32 0x3B124925#32)) := rfl
  rw [e, mul448 _ _ _ (red4 _ g c)]
  simp only [pay7_apply]
  rfl
theorem pay9_apply (a1 : Vec Ideal S11008x4096 .bf16) (g : Fin 86) (c : Fin 32) : k0_pay9 (k0_pay8 a1) (ix2 g c) = sW (tW a1) g c := by
  have e : k0_pay9 (k0_pay8 a1) = scaleOf iota_S86x32x253_d2_w32 shapeCasts_S86x32_S86x32x1 broadcasts_S86x32x1_S86x32x253 reduces_S86x32x253_S86x32 (k0_pay8 a1) := rfl
  rw [e, scaleOf_apply _ _ _ _ _ _ _ (fun p => by pointwise), pay8_apply]
  rfl
theorem pay6_apply (a0 : Vec Ideal S160x1x11008 .bf16) (r : Fin 160) (g : Fin 86) (l : Fin 128) : k0_pay6 a0 (ix3 r g l) = cX (tX a0) r ⟨128 * g.val + l.val, by omega⟩ := by
  have hx := pay4_apply a0 r g l
  have hs := pay5_apply a0 r g
  have e : (⟨(128 * g.val + l.val) / 128, by omega⟩ : Fin 86) = g := Fin.ext (by dsimp only; omega)
  unfold cX
  rw [e, ← hx, ← hs]
  clear hx hs e
  unfold k0_pay6
  exact clip_apply _ _ _ _ ((wide_x _ r g l).trans (recip_apply _ _))
theorem pay10_apply (a1 : Vec Ideal S11008x4096 .bf16) (g : Fin 86) (r : Fin 128) (c : Fin 32) (l : Fin 128) :
    k0_pay10 (k0_pay7 a1) (k0_pay8 a1) (ix4 g r c l) = cW (tW a1) ⟨128 * g.val + r.val, by omega⟩ ⟨128 * c.val + l.val, by omega⟩ := by
  have hx := pay7_apply a1 g r c l
  have hs := pay9_apply a1 g c
  have e : (⟨(128 * g.val + r.val) / 128, by omega⟩ : Fin 86) = g := Fin.ext (by dsimp only; omega)
  have e' : (⟨(128 * c.val + l.val) / 128, by omega⟩ : Fin 32) = c := Fin.ext (by dsimp only; omega)
  unfold cW
  rw [e, e', ← hx, ← hs]
  clear hx hs e e'
  unfold k0_pay10
  exact clip_apply _ _ _ _ ((wide_w _ g r c l).trans (recip_apply _ _))
theorem G2_apply (a0 : Vec Ideal S160x1x11008 .bf16) (a1 : Vec Ideal S11008x4096 .bf16) (r : Fin 160) (j : Fin 4096) :
    Value.G2 a0 a1 (ix2 r j) = ∑ i : Fin 11008, term (tX a0) (tW a1) r j i := by
  unfold Value.G2
  rw [pay13_eq, pay14_eq, pay15_eq, pay16_eq]
  have hx := pay6_apply a0
  have hs := pay5_apply a0
  have hw := pay10_apply a1
  have ht := pay9_apply a1
  unfold k0_pay11
  generalize k0_pay10 (k0_pay7 a1) (k0_pay8 a1) = w at *
  generalize k0_pay9 (k0_pay8 a1) = t at *
  generalize k0_pay6 a0 = x at *
  generalize k0_pay5 a0 = s at *
  pointwise
  refine Finset.sum_congr rfl fun i _ => ?_
  rw [hx, hs, hw, ht]
  unfold term
  have e1 : ∀ h, (⟨128 * (i.val / 128) + i.val % 128, h⟩ : Fin 11008) = i := fun _ => Fin.ext (by dsimp only; omega)
  have e2 : ∀ h, (⟨128 * (j.val / 128) + j.val % 128, h⟩ : Fin 4096) = j := fun _ => Fin.ext (by dsimp only; omega)
  simp only [e1, e2]
theorem G3_at (a0 : Vec Ideal S160x1x11008 .bf16) (a1 : Vec Ideal S11008x4096 .bf16) (r : Fin 160) (i : Fin 11008) :
    Value.G3 a0 a1 (ix2 r i) = cX (tX a0) r i := by
  have h := pay6_apply a0
  unfold Value.G3
  rw [pay14_eq]
  generalize k0_pay6 a0 = x at *
  pointwise [k0_pay12]
  rw [h]
  exact congrArg (cX (tX a0) r) (Fin.ext (by dsimp only; omega))
theorem G4_apply (a0 : Vec Ideal S160x1x11008 .bf16) (a1 : Vec Ideal S11008x4096 .bf16) (r : Fin 160) (g : Fin 86) :
    Value.G4 a0 a1 (ix3 r 0 g) = sX (tX a0) r g := by
  unfold Value.G4
  rw [pay13_eq, ← pay5_apply]
  generalize k0_pay5 a0 = x
  pointwise [k0_pay1]
theorem G5_at (a0 : Vec Ideal S160x1x11008 .bf16) (a1 : Vec Ideal S11008x4096 .bf16) (i : Fin 11008) (j : Fin 4096) :
    Value.G5 a0 a1 (ix2 i j) = cW (tW a1) i j := by
  have h := pay10_apply a1
  unfold Value.G5
  rw [pay15_eq, pay16_eq]
  generalize k0_pay10 (k0_pay7 a1) (k0_pay8 a1) = x at *
  pointwise [k0_pay2]
  rw [h]
  exact congrArg₂ (cW (tW a1)) (Fin.ext (by dsimp only; omega)) (Fin.ext (by dsimp only; omega))
theorem G6_apply (a0 : Vec Ideal S160x1x11008 .bf16) (a1 : Vec Ideal S11008x4096 .bf16) (c : Fin 32) (g : Fin 86) :
    Value.G6 a0 a1 (ix2 c g) = sW (tW a1) g c := by
  unfold Value.G6
  rw [pay16_eq, ← pay9_apply]
  generalize k0_pay9 (k0_pay8 a1) = x
  pointwise [k0_pay3]

end Cert.ReferenceIdeal.Gen
end
-- ==== Proof.PreRead.lean ====
/- The precondition, entry by entry, and what it says of the scaled peaks. -/
module
public import proofs.«01_k».proof.Pre_bf16_range
public import proofs.«01_k».proof.Proof.Closed
public import Idealize.ShloMosaic.Lib.ReduceAll
@[expose] public section
set_option maxRecDepth 16384
noncomputable section
namespace Cert.Pre_bf16_range
open Idealize.ShloMosaic Idealize.ShloMosaic.TcCoe Idealize.ShloMosaic.Tactic
open Cert.Scale Cert.Quant

theorem facts : Facts where
  bcast_S_S160x1x11008 := by decide
  reducesTo_S160x1x11008_S_d0_1_2 := by decide
  h_S_ := by decide
  bcast_S_S11008x4096 := by decide
  reducesTo_S11008x4096_S_d0_1 := by decide

/-- The largest finite bf16 value. -/
def big : EReal := Ideal.ofBits .bf16 0x7F7F#16
/-- What the precondition says of one entry. -/
def Fits (x : EReal) : Prop := max x (-x) ≤ big ∨ max x (-x) = ⊤

theorem andi_one : ∀ p q : BitVec 1, IntOp.andi p q = 1#1 → p = 1#1 ∧ q = 1#1 := by decide
theorem ori_one : ∀ p q : BitVec 1, IntOp.ori p q = 1#1 → p = 1#1 ∨ q = 1#1 := by decide
theorem inf_bf16 : Ideal.ofBits .bf16 0x7F80#16 = ⊤ := by simp [Ideal.ofBits, Ideal.ieee]

theorem fits_of_bits (x : EReal) (h : IntOp.ori (Ideal.cmp .ole (max x (-x)) (Ideal.ofBits .bf16 0x7F7F#16)) (Ideal.cmp .oeq (max x (-x)) (Ideal.ofBits .bf16 0x7F80#16)) = 1#1) : Fits x := by
  rw [inf_bf16] at h
  rcases ori_one _ _ h with e | e
  · left
    by_contra c
    have : ¬ max x (-x) ≤ Ideal.ofBits .bf16 0x7F7F#16 := c
    simp [Ideal.cmp, this] at e
  · right
    by_contra c
    simp [Ideal.cmp, c] at e

variable [Facts]

instance : Subsingleton S_.Idx := ⟨fun a b => funext fun d => d.elim0⟩

theorem fits_of_fn (a0 : FVec Ideal S160x1x11008 .bf16) (a1 : FVec Ideal S11008x4096 .bf16) (h : fn a0 a1 = fun _ => 1#1) :
    (∀ i, Fits (a0 i)) ∧ ∀ i, Fits (a1 i) := by
  have h0 := andi_one _ _ (congrFun h fun d => d.elim0)
  exact ⟨fun i => fits_of_bits _ (Host.reduce_andi_all _ _ _ _ _ h0.1 i), fun i => fits_of_bits _ (Host.reduce_andi_all _ _ _ _ _ h0.2 i)⟩

theorem inv448_val : inv448 = (((9586981 : ℝ) / 2 ^ 32 : ℝ) : EReal) := by
  unfold inv448
  simp [Ideal.ofBits, Ideal.ieee]
  rw [← EReal.coe_mul]
  exact congrArg _ (by norm_num)
theorem big_val : big = (((255 : ℝ) * 2 ^ 120 : ℝ) : EReal) := by
  unfold big
  simp [Ideal.ofBits, Ideal.ieee]

/-- A peak of fitting entries is not negative, and no larger than the largest finite value unless infinite. -/
theorem ok_of_peak (p : EReal) (h0 : 0 ≤ p) (h : p ≤ big ∨ p = ⊤) : Ok (p * inv448) := by
  rw [inv448_val]
  rcases h with h | rfl
  · rw [big_val] at h
    lift p to ℝ using ⟨ne_top_of_le_ne_top (EReal.coe_ne_top _) h, fun e => by rw [e] at h0; simp at h0⟩
    have h' : p ≤ 255 * 2 ^ 120 := EReal.coe_le_coe_iff.mp h
    have h0' : 0 ≤ p := EReal.coe_nonneg.mp h0
    rw [← EReal.coe_mul]
    refine ⟨EReal.coe_nonneg.mpr (by positivity), Or.inl (EReal.coe_lt_coe_iff.mpr ?_)⟩
    calc p * (9586981 / 2 ^ 32) ≤ (255 * 2 ^ 120) * (9586981 / 2 ^ 32) := by gcongr
      _ < 2 ^ (120 : ℤ) := by norm_num
  · rw [EReal.top_mul_coe_of_pos (by norm_num)]
    exact ⟨le_top, Or.inr rfl⟩

theorem abs_nonneg' (x : EReal) : 0 ≤ max x (-x) := by
  rcases le_total 0 x with h | h
  · exact le_max_of_le_left h
  · exact le_max_of_le_right (EReal.neg_nonneg.mpr h)

theorem peak2_fits {n k : ℕ} (f : Fin (n + 1) → Fin (k + 1) → EReal) (hf : ∀ r l, Fits (f r l)) : 0 ≤ peak2 f ∧ (peak2 f ≤ big ∨ peak2 f = ⊤) := by
  have key := (peak2_le f (peak2 f)).mp le_rfl
  refine ⟨(abs_nonneg' _).trans (key 0 0), ?_⟩
  by_cases c : ∃ r l, max (f r l) (-f r l) = ⊤
  · obtain ⟨r, l, e⟩ := c
    exact Or.inr (top_le_iff.mp (e ▸ key r l))
  · exact Or.inl ((peak2_le f big).mpr fun r l => (hf r l).resolve_right fun e => c ⟨r, l, e⟩)
theorem peak_fits {k : ℕ} (f : Fin (k + 1) → EReal) (hf : ∀ l, Fits (f l)) : 0 ≤ peak f ∧ (peak f ≤ big ∨ peak f = ⊤) := by
  have key := (peak_le f (peak f)).mp le_rfl
  refine ⟨(abs_nonneg' _).trans (key 0), ?_⟩
  by_cases c : ∃ l, max (f l) (-f l) = ⊤
  · obtain ⟨l, e⟩ := c
    exact Or.inr (top_le_iff.mp (e ▸ key l))
  · exact Or.inl ((peak_le f big).mpr fun l => (hf l).resolve_right fun e => c ⟨l, e⟩)

theorem ok_vX (X : Fin 160 → Fin 11008 → EReal) (h : ∀ r i, Fits (X r i)) (r : Fin 160) (g : Fin 86) : Ok (vX X r g) := by
  obtain ⟨a, b⟩ := peak_fits (k := 127) (fun l : Fin 128 => X r ⟨128 * g.val + l.val, by omega⟩) fun l => h _ _
  exact ok_of_peak _ a b
theorem ok_vW (W : Fin 11008 → Fin 4096 → EReal) (h : ∀ i j, Fits (W i j)) (g : Fin 86) (c : Fin 32) : Ok (vW W g c) := by
  obtain ⟨a, b⟩ := peak2_fits (n := 127) (k := 127) (fun r l : Fin 128 => W ⟨128 * g.val + r.val, by omega⟩ ⟨128 * c.val + l.val, by omega⟩) fun r l => h _ _
  exact ok_of_peak _ a b

end Cert.Pre_bf16_range
end
-- ==== Proof.Equal.lean ====
/- The two programs leave the same five arrays, by the closed form both have. -/
module
public import proofs.«01_k».proof.Proof.KClosed
public import proofs.«01_k».proof.Proof.RefRead
public import proofs.«01_k».proof.Proof.PreRead
@[expose] public section
set_option maxRecDepth 16384
noncomputable section
namespace Cert.Equal
open Idealize.ShloMosaic Idealize.ShloMosaic.TcCoe
open Cert.Quant Cert.KernelIdeal Cert.KernelIdeal.Value

variable (m : (ℓ : Loc nD τ sig) → Buf (Elt Ideal) ℓ) (c : Dev nD)

/-- An index of the scale array of x, whose middle coordinate can only be 0. -/
theorem ix_scale (i : S160x1x86.Idx) : i = ix3 (i 0) (0 : Fin 1) (i 2) := by
  funext d
  match d with
  | ⟨0, _⟩ => rfl
  | ⟨1, _⟩ => exact Fin.ext (by have h : (i 1).val < 1 := (i 1).isLt; show (i 1).val = 0; omega)
  | ⟨2, _⟩ => rfl

/-- The two arguments of the kernel, as the arrays the reference takes. -/
abbrev x0 := m ((c : Thread nD τ).loc main_arg0)
abbrev w0 := m ((c : Thread nD τ).loc main_arg1)

variable {m c} (hX : ∀ r g, Ok (vX (kX m c) r g)) (hW : ∀ g b, Ok (vW (kW m c) g b))
include hX hW

theorem y_eq : Cert.ReferenceIdeal.Value.G2 (x0 m c) (w0 m c) = G2 m c := by
  funext i
  rw [eq_ix2 i]
  exact (Cert.ReferenceIdeal.Gen.G2_apply _ _ _ _).trans (G2_apply hX hW _ _).symm
omit hW in
theorem xCodes_eq : Cert.ReferenceIdeal.Value.G3 (x0 m c) (w0 m c) = G3 m c := by
  funext i
  rw [eq_ix2 i]
  exact (Cert.ReferenceIdeal.Gen.G3_at _ _ _ _).trans (G3_at hX _ _).symm
omit hW in
theorem xScales_eq : Cert.ReferenceIdeal.Value.G4 (x0 m c) (w0 m c) = G4 m c := by
  funext i
  rw [ix_scale i]
  exact (Cert.ReferenceIdeal.Gen.G4_apply _ _ _ _).trans (G4_apply hX _ _).symm
omit hX in
theorem wCodes_eq : Cert.ReferenceIdeal.Value.G5 (x0 m c) (w0 m c) = G5 m c := by
  funext i
  rw [eq_ix2 i]
  exact (Cert.ReferenceIdeal.Gen.G5_at _ _ _ _).trans (G5_at hW _ _).symm
omit hX in
theorem wScales_eq : Cert.ReferenceIdeal.Value.G6 (x0 m c) (w0 m c) = G6 m c := by
  funext i
  rw [eq_ix2 i]
  exact (Cert.ReferenceIdeal.Gen.G6_apply _ _ _ _).trans (G6_apply hW _ _).symm

end Cert.Equal
end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Value
public import proofs.«01_k».proof.Proof.Equal

@[expose] public section

open Idealize.ShloMosaic Idealize.SL.Sem
open Cert.Quant Cert.KernelIdeal.Value Cert.Equal

attribute [local instance] Cert.Kernel.Gen.facts Cert.KernelIdeal.Gen.facts Cert.ReferenceIdeal.Gen.facts Cert.Pre_bf16_range.facts

theorem Cert.Proof.algebraic : Cert.algebraic_KernelIdeal_ReferenceIdeal_pre_bf16_range := by
  intro m g m' g' hpre hargs
  have fits := fun c => Cert.Pre_bf16_range.fits_of_fn _ _ (hpre c)
  have hX : ∀ c r g, Ok (vX (kX m c) r g) := fun c => Cert.Pre_bf16_range.ok_vX _ fun _ _ => (fits c).1 _
  have hW : ∀ c g b, Ok (vW (kW m c) g b) := fun c => Cert.Pre_bf16_range.ok_vW _ fun _ _ => (fits c).2 _
  refine ⟨G2 m, G3 m, G4 m, G5 m, G6 m, Cert.KernelIdeal.Value.run m g,
    (θ_run _ _ _).mono (fun r h c => ?_) (Cert.ReferenceIdeal.Value.run m' g')⟩
  obtain ⟨h0, h1, h2, h3, h4, ha, hb⟩ := h c
  obtain ⟨e0, e1⟩ := hargs c
  rw [e0, e1] at h0 h1 h2 h3 h4
  exact ⟨h0.trans (y_eq (hX c) (hW c)), h1.trans (xCodes_eq (hX c)), h2.trans (xScales_eq (hX c)),
    h3.trans (wCodes_eq (hW c)), h4.trans (wScales_eq (hW c)), ha, hb⟩

theorem Cert.Proof.claim : Cert.Claim :=
  ⟨Cert.Kernel.Gen.facts, Cert.KernelIdeal.Gen.facts, Cert.ReferenceIdeal.Gen.facts, Cert.Pre_bf16_range.facts,
    fun m ρ _ => Cert.Kernel.Gen.frame m ρ,
    fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    trivial, Cert.Proof.algebraic⟩
